-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S8192x1024 : Shape := ⟨2, ![8192, 1024]⟩
abbrev S8 : Shape := ⟨1, ![8]⟩
abbrev S4 : Shape := ⟨1, ![4]⟩
abbrev S2 : Shape := ⟨1, ![2]⟩
abbrev S4096x1024 : Shape := ⟨2, ![4096, 1024]⟩
abbrev S_ : Shape := ⟨0, ![]⟩
abbrev S1 : Shape := ⟨1, ![1]⟩
abbrev S128x1024 : Shape := ⟨2, ![128, 1024]⟩

abbrev nBuf : Space → Nat
  | .hbm => 2
  | .vmem => 1
  | .smem => 0
  | _ => 0

abbrev bufTy : (tb : Table) → Fin (tcTables nBuf tb) → BufTy
  | .hbm, ⟨0, _⟩ => ⟨S4096x2048, .f32⟩
  | .hbm, ⟨1, _⟩ => ⟨S8192x1024, .f32⟩
  | .local _ .vmem, ⟨0, _⟩ => ⟨S4096x1024, .f32⟩
  | _, _ => ⟨S4096x2048, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch11 : Ref sig .tc := ⟨.vmem, 0, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v31 : BitVec 32 := Scalar.muli v2 c4_i32_19
  let v32 : BitVec 32 := Scalar.addi c0_i32 v31
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_20 : BitVec 32 := 2#32
  let v33 : BitVec 32 := Scalar.muli v9 c2_i32_20
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v35 : BitVec 32 := Scalar.muli v8 c1_i32_21
  let v36 : BitVec 32 := Scalar.addi v34 v35
  v36.toNat
def k0_dev2 (d0 : Dev nD) : Nat :=
  let c0_i32_24 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_23 : BitVec 32 := 4#32
  let v37 : BitVec 32 := Scalar.muli v10 c4_i32_23
  let v38 : BitVec 32 := Scalar.addi c0_i32_24 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v39 : BitVec 32 := Scalar.muli v5 c2_i32_25
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v41 : BitVec 32 := Scalar.muli v8 c1_i32_26
  let v42 : BitVec 32 := Scalar.addi v40 v41
  v42.toNat
def k0_dev3 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v43 : BitVec 32 := Scalar.muli v2 c4_i32_28
  let v44 : BitVec 32 := Scalar.addi c0_i32_29 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v45 : BitVec 32 := Scalar.muli v5 c2_i32_30
  let v46 : BitVec 32 := Scalar.addi v44 v45
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_31 : BitVec 32 := 1#32
  let v47 : BitVec 32 := Scalar.muli v11 c1_i32_31
  let v48 : BitVec 32 := Scalar.addi v46 v47
  v48.toNat
def k0_off1 (d0 : Dev nD) (c0_i32_33 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32_34 : BitVec 32 := 4096#32
  let v51 : BitVec 32 := Scalar.muli v5 c4096_i32_34
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_32 : BitVec 32 := 1024#32
  let v49 : BitVec 32 := Scalar.muli v13 c1024_i32_32
  let v50 : BitVec 32 := Scalar.addi v49 c0_i32_33
  let v52 : BitVec 32 := Scalar.addi v51 v50
  let c0_i32_41 : BitVec 32 := 0#32
  ![v52.toNat, 0]
def k0_off2 (d0 : Dev nD) (c0_i32_33 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_32 : BitVec 32 := 1024#32
  let v49 : BitVec 32 := Scalar.muli v13 c1024_i32_32
  let v50 : BitVec 32 := Scalar.addi v49 c0_i32_33
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_16 v5
  let c1024_i32_17 : BitVec 32 := 1024#32
  let v29 : BitVec 32 := Scalar.muli v28 c1024_i32_17
  ![v50.toNat, v29.toNat]
def k0_dev4 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v53 : BitVec 32 := Scalar.muli v2 c4_i32_37
  let v54 : BitVec 32 := Scalar.addi c0_i32_38 v53
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_39 : BitVec 32 := 2#32
  let v55 : BitVec 32 := Scalar.muli v9 c2_i32_39
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v57 : BitVec 32 := Scalar.muli v8 c1_i32_40
  let v58 : BitVec 32 := Scalar.addi v56 v57
  v58.toNat
def k0_dev5 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v69 : BitVec 32 := Scalar.muli v2 c4_i32_46
  let v70 : BitVec 32 := Scalar.addi c0_i32_47 v69
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_48 : BitVec 32 := 2#32
  let v71 : BitVec 32 := Scalar.muli v9 c2_i32_48
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v73 : BitVec 32 := Scalar.muli v8 c1_i32_49
  let v74 : BitVec 32 := Scalar.addi v72 v73
  v74.toNat
def k0_dev6 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v85 : BitVec 32 := Scalar.muli v2 c4_i32_55
  let v86 : BitVec 32 := Scalar.addi c0_i32_56 v85
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_57 : BitVec 32 := 2#32
  let v87 : BitVec 32 := Scalar.muli v9 c2_i32_57
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v89 : BitVec 32 := Scalar.muli v8 c1_i32_58
  let v90 : BitVec 32 := Scalar.addi v88 v89
  v90.toNat
def k0_dev7 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v101 : BitVec 32 := Scalar.muli v2 c4_i32_64
  let v102 : BitVec 32 := Scalar.addi c0_i32_65 v101
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_66 : BitVec 32 := 2#32
  let v103 : BitVec 32 := Scalar.muli v9 c2_i32_66
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_67 : BitVec 32 := 1#32
  let v105 : BitVec 32 := Scalar.muli v8 c1_i32_67
  let v106 : BitVec 32 := Scalar.addi v104 v105
  v106.toNat
def k0_dev8 (d0 : Dev nD) : Nat :=
  let c0_i32_74 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_73 : BitVec 32 := 4#32
  let v117 : BitVec 32 := Scalar.muli v2 c4_i32_73
  let v118 : BitVec 32 := Scalar.addi c0_i32_74 v117
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_75 : BitVec 32 := 2#32
  let v119 : BitVec 32 := Scalar.muli v9 c2_i32_75
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v121 : BitVec 32 := Scalar.muli v8 c1_i32_76
  let v122 : BitVec 32 := Scalar.addi v120 v121
  v122.toNat
def k0_dev9 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v133 : BitVec 32 := Scalar.muli v2 c4_i32_81
  let v134 : BitVec 32 := Scalar.addi c0_i32_82 v133
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_83 : BitVec 32 := 2#32
  let v135 : BitVec 32 := Scalar.muli v9 c2_i32_83
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v137 : BitVec 32 := Scalar.muli v8 c1_i32_84
  let v138 : BitVec 32 := Scalar.addi v136 v137
  v138.toNat
def k0_dev10 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v149 : BitVec 32 := Scalar.muli v2 c4_i32_89
  let v150 : BitVec 32 := Scalar.addi c0_i32_90 v149
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_91 : BitVec 32 := 2#32
  let v151 : BitVec 32 := Scalar.muli v9 c2_i32_91
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v153 : BitVec 32 := Scalar.muli v8 c1_i32_92
  let v154 : BitVec 32 := Scalar.addi v152 v153
  v154.toNat
def k0_dev11 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_97 : BitVec 32 := 4#32
  let v165 : BitVec 32 := Scalar.muli v2 c4_i32_97
  let v166 : BitVec 32 := Scalar.addi c0_i32_98 v165
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_99 : BitVec 32 := 2#32
  let v167 : BitVec 32 := Scalar.muli v9 c2_i32_99
  let v168 : BitVec 32 := Scalar.addi v166 v167
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v169 : BitVec 32 := Scalar.muli v8 c1_i32_100
  let v170 : BitVec 32 := Scalar.addi v168 v169
  v170.toNat
def k0_off3 (d0 : Dev nD) : Fin 2 → Nat :=
  let c0_i32_103 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v27 : BitVec 32 := Scalar.muli v5 c1024_i32
  ![0, v27.toNat]
def k0_off4 (d0 : Dev nD) (c0_i32_114 : BitVec 32) : Fin 2 → Nat :=
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c4096_i32_15 : BitVec 32 := 4096#32
  let v26 : BitVec 32 := Scalar.muli v25 c4096_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_113 : BitVec 32 := 1024#32
  let v193 : BitVec 32 := Scalar.muli v13 c1024_i32_113
  let v194 : BitVec 32 := Scalar.addi v26 v193
  let v195 : BitVec 32 := Scalar.addi v194 c0_i32_114
  let c0_i32_121 : BitVec 32 := 0#32
  ![v195.toNat, 0]
def k0_dev12 (d0 : Dev nD) : Nat :=
  let c0_i32_118 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_117 : BitVec 32 := 4#32
  let v196 : BitVec 32 := Scalar.muli v10 c4_i32_117
  let v197 : BitVec 32 := Scalar.addi c0_i32_118 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v198 : BitVec 32 := Scalar.muli v5 c2_i32_119
  let v199 : BitVec 32 := Scalar.addi v197 v198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v200 : BitVec 32 := Scalar.muli v8 c1_i32_120
  let v201 : BitVec 32 := Scalar.addi v199 v200
  v201.toNat
def k0_dev13 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_127 : BitVec 32 := 4#32
  let v211 : BitVec 32 := Scalar.muli v2 c4_i32_127
  let v212 : BitVec 32 := Scalar.addi c0_i32_128 v211
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v213 : BitVec 32 := Scalar.muli v5 c2_i32_129
  let v214 : BitVec 32 := Scalar.addi v212 v213
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_130 : BitVec 32 := 1#32
  let v215 : BitVec 32 := Scalar.muli v11 c1_i32_130
  let v216 : BitVec 32 := Scalar.addi v214 v215
  v216.toNat
def k0_dev14 (d0 : Dev nD) : Nat :=
  let c0_i32_147 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_146 : BitVec 32 := 4#32
  let v239 : BitVec 32 := Scalar.muli v10 c4_i32_146
  let v240 : BitVec 32 := Scalar.addi c0_i32_147 v239
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_148 : BitVec 32 := 2#32
  let v241 : BitVec 32 := Scalar.muli v5 c2_i32_148
  let v242 : BitVec 32 := Scalar.addi v240 v241
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v243 : BitVec 32 := Scalar.muli v8 c1_i32_149
  let v244 : BitVec 32 := Scalar.addi v242 v243
  v244.toNat
def k0_dev15 (d0 : Dev nD) : Nat :=
  let c0_i32_157 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_156 : BitVec 32 := 4#32
  let v254 : BitVec 32 := Scalar.muli v2 c4_i32_156
  let v255 : BitVec 32 := Scalar.addi c0_i32_157 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_158 : BitVec 32 := 2#32
  let v256 : BitVec 32 := Scalar.muli v5 c2_i32_158
  let v257 : BitVec 32 := Scalar.addi v255 v256
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_159 : BitVec 32 := 1#32
  let v258 : BitVec 32 := Scalar.muli v11 c1_i32_159
  let v259 : BitVec 32 := Scalar.addi v257 v258
  v259.toNat
def k0_dev16 (d0 : Dev nD) : Nat :=
  let c0_i32_176 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_175 : BitVec 32 := 4#32
  let v282 : BitVec 32 := Scalar.muli v10 c4_i32_175
  let v283 : BitVec 32 := Scalar.addi c0_i32_176 v282
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_177 : BitVec 32 := 2#32
  let v284 : BitVec 32 := Scalar.muli v5 c2_i32_177
  let v285 : BitVec 32 := Scalar.addi v283 v284
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_178 : BitVec 32 := 1#32
  let v286 : BitVec 32 := Scalar.muli v8 c1_i32_178
  let v287 : BitVec 32 := Scalar.addi v285 v286
  v287.toNat
def k0_dev17 (d0 : Dev nD) : Nat :=
  let c0_i32_186 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_185 : BitVec 32 := 4#32
  let v297 : BitVec 32 := Scalar.muli v2 c4_i32_185
  let v298 : BitVec 32 := Scalar.addi c0_i32_186 v297
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_187 : BitVec 32 := 2#32
  let v299 : BitVec 32 := Scalar.muli v5 c2_i32_187
  let v300 : BitVec 32 := Scalar.addi v298 v299
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_188 : BitVec 32 := 1#32
  let v301 : BitVec 32 := Scalar.muli v11 c1_i32_188
  let v302 : BitVec 32 := Scalar.addi v300 v301
  v302.toNat
def k0_dev18 (d0 : Dev nD) : Nat :=
  let c0_i32_205 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_204 : BitVec 32 := 4#32
  let v325 : BitVec 32 := Scalar.muli v10 c4_i32_204
  let v326 : BitVec 32 := Scalar.addi c0_i32_205 v325
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_206 : BitVec 32 := 2#32
  let v327 : BitVec 32 := Scalar.muli v5 c2_i32_206
  let v328 : BitVec 32 := Scalar.addi v326 v327
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v329 : BitVec 32 := Scalar.muli v8 c1_i32_207
  let v330 : BitVec 32 := Scalar.addi v328 v329
  v330.toNat
def k0_dev19 (d0 : Dev nD) : Nat :=
  let c0_i32_215 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_214 : BitVec 32 := 4#32
  let v340 : BitVec 32 := Scalar.muli v2 c4_i32_214
  let v341 : BitVec 32 := Scalar.addi c0_i32_215 v340
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_216 : BitVec 32 := 2#32
  let v342 : BitVec 32 := Scalar.muli v5 c2_i32_216
  let v343 : BitVec 32 := Scalar.addi v341 v342
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_217 : BitVec 32 := 1#32
  let v344 : BitVec 32 := Scalar.muli v11 c1_i32_217
  let v345 : BitVec 32 := Scalar.addi v343 v344
  v345.toNat
def k0_dev20 (d0 : Dev nD) : Nat :=
  let c0_i32_234 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_233 : BitVec 32 := 4#32
  let v368 : BitVec 32 := Scalar.muli v10 c4_i32_233
  let v369 : BitVec 32 := Scalar.addi c0_i32_234 v368
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_235 : BitVec 32 := 2#32
  let v370 : BitVec 32 := Scalar.muli v5 c2_i32_235
  let v371 : BitVec 32 := Scalar.addi v369 v370
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_236 : BitVec 32 := 1#32
  let v372 : BitVec 32 := Scalar.muli v8 c1_i32_236
  let v373 : BitVec 32 := Scalar.addi v371 v372
  v373.toNat
def k0_dev21 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_243 : BitVec 32 := 4#32
  let v383 : BitVec 32 := Scalar.muli v2 c4_i32_243
  let v384 : BitVec 32 := Scalar.addi c0_i32_244 v383
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_245 : BitVec 32 := 2#32
  let v385 : BitVec 32 := Scalar.muli v5 c2_i32_245
  let v386 : BitVec 32 := Scalar.addi v384 v385
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_246 : BitVec 32 := 1#32
  let v387 : BitVec 32 := Scalar.muli v11 c1_i32_246
  let v388 : BitVec 32 := Scalar.addi v386 v387
  v388.toNat
def k0_dev22 (d0 : Dev nD) : Nat :=
  let c0_i32_263 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_262 : BitVec 32 := 4#32
  let v411 : BitVec 32 := Scalar.muli v10 c4_i32_262
  let v412 : BitVec 32 := Scalar.addi c0_i32_263 v411
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_264 : BitVec 32 := 2#32
  let v413 : BitVec 32 := Scalar.muli v5 c2_i32_264
  let v414 : BitVec 32 := Scalar.addi v412 v413
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_265 : BitVec 32 := 1#32
  let v415 : BitVec 32 := Scalar.muli v8 c1_i32_265
  let v416 : BitVec 32 := Scalar.addi v414 v415
  v416.toNat
def k0_dev23 (d0 : Dev nD) : Nat :=
  let c0_i32_273 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_272 : BitVec 32 := 4#32
  let v426 : BitVec 32 := Scalar.muli v2 c4_i32_272
  let v427 : BitVec 32 := Scalar.addi c0_i32_273 v426
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_274 : BitVec 32 := 2#32
  let v428 : BitVec 32 := Scalar.muli v5 c2_i32_274
  let v429 : BitVec 32 := Scalar.addi v427 v428
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_275 : BitVec 32 := 1#32
  let v430 : BitVec 32 := Scalar.muli v11 c1_i32_275
  let v431 : BitVec 32 := Scalar.addi v429 v430
  v431.toNat
def k0_dev24 (d0 : Dev nD) : Nat :=
  let c0_i32_292 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_291 : BitVec 32 := 4#32
  let v454 : BitVec 32 := Scalar.muli v10 c4_i32_291
  let v455 : BitVec 32 := Scalar.addi c0_i32_292 v454
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_293 : BitVec 32 := 2#32
  let v456 : BitVec 32 := Scalar.muli v5 c2_i32_293
  let v457 : BitVec 32 := Scalar.addi v455 v456
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_294 : BitVec 32 := 1#32
  let v458 : BitVec 32 := Scalar.muli v8 c1_i32_294
  let v459 : BitVec 32 := Scalar.addi v457 v458
  v459.toNat
def k0_dev25 (d0 : Dev nD) : Nat :=
  let c0_i32_302 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_301 : BitVec 32 := 4#32
  let v469 : BitVec 32 := Scalar.muli v2 c4_i32_301
  let v470 : BitVec 32 := Scalar.addi c0_i32_302 v469
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_303 : BitVec 32 := 2#32
  let v471 : BitVec 32 := Scalar.muli v5 c2_i32_303
  let v472 : BitVec 32 := Scalar.addi v470 v471
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_304 : BitVec 32 := 1#32
  let v473 : BitVec 32 := Scalar.muli v11 c1_i32_304
  let v474 : BitVec 32 := Scalar.addi v472 v473
  v474.toNat
def k0_dev26 (d0 : Dev nD) : Nat :=
  let c0_i32_321 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_320 : BitVec 32 := 4#32
  let v497 : BitVec 32 := Scalar.muli v10 c4_i32_320
  let v498 : BitVec 32 := Scalar.addi c0_i32_321 v497
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_322 : BitVec 32 := 2#32
  let v499 : BitVec 32 := Scalar.muli v5 c2_i32_322
  let v500 : BitVec 32 := Scalar.addi v498 v499
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_323 : BitVec 32 := 1#32
  let v501 : BitVec 32 := Scalar.muli v8 c1_i32_323
  let v502 : BitVec 32 := Scalar.addi v500 v501
  v502.toNat
def k0_dev27 (d0 : Dev nD) : Nat :=
  let c0_i32_331 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_330 : BitVec 32 := 4#32
  let v512 : BitVec 32 := Scalar.muli v2 c4_i32_330
  let v513 : BitVec 32 := Scalar.addi c0_i32_331 v512
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_332 : BitVec 32 := 2#32
  let v514 : BitVec 32 := Scalar.muli v5 c2_i32_332
  let v515 : BitVec 32 := Scalar.addi v513 v514
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_333 : BitVec 32 := 1#32
  let v516 : BitVec 32 := Scalar.muli v11 c1_i32_333
  let v517 : BitVec 32 := Scalar.addi v515 v516
  v517.toNat
def k0_off5 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32 : BitVec 32 := 4096#32
  let v24 : BitVec 32 := Scalar.muli v5 c4096_i32
  let c0_i32_339 : BitVec 32 := 0#32
  ![v24.toNat, 0]
def k0_off6 (d0 : Dev nD) (c0_i32_351 : BitVec 32) : Fin 2 → Nat :=
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c4096_i32_15 : BitVec 32 := 4096#32
  let v26 : BitVec 32 := Scalar.muli v25 c4096_i32_15
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_350 : BitVec 32 := 1024#32
  let v543 : BitVec 32 := Scalar.muli v19 c1024_i32_350
  let v544 : BitVec 32 := Scalar.addi v26 v543
  let v545 : BitVec 32 := Scalar.addi v544 c0_i32_351
  let c0_i32_358 : BitVec 32 := 0#32
  ![v545.toNat, 0]
def k0_dev28 (d0 : Dev nD) : Nat :=
  let c0_i32_355 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_354 : BitVec 32 := 4#32
  let v546 : BitVec 32 := Scalar.muli v10 c4_i32_354
  let v547 : BitVec 32 := Scalar.addi c0_i32_355 v546
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_356 : BitVec 32 := 2#32
  let v548 : BitVec 32 := Scalar.muli v5 c2_i32_356
  let v549 : BitVec 32 := Scalar.addi v547 v548
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_357 : BitVec 32 := 1#32
  let v550 : BitVec 32 := Scalar.muli v8 c1_i32_357
  let v551 : BitVec 32 := Scalar.addi v549 v550
  v551.toNat
def k0_dev29 (d0 : Dev nD) : Nat :=
  let c0_i32_375 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_374 : BitVec 32 := 4#32
  let v574 : BitVec 32 := Scalar.muli v10 c4_i32_374
  let v575 : BitVec 32 := Scalar.addi c0_i32_375 v574
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_376 : BitVec 32 := 2#32
  let v576 : BitVec 32 := Scalar.muli v5 c2_i32_376
  let v577 : BitVec 32 := Scalar.addi v575 v576
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_377 : BitVec 32 := 1#32
  let v578 : BitVec 32 := Scalar.muli v8 c1_i32_377
  let v579 : BitVec 32 := Scalar.addi v577 v578
  v579.toNat
def k0_dev30 (d0 : Dev nD) : Nat :=
  let c0_i32_395 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_394 : BitVec 32 := 4#32
  let v602 : BitVec 32 := Scalar.muli v10 c4_i32_394
  let v603 : BitVec 32 := Scalar.addi c0_i32_395 v602
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_396 : BitVec 32 := 2#32
  let v604 : BitVec 32 := Scalar.muli v5 c2_i32_396
  let v605 : BitVec 32 := Scalar.addi v603 v604
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_397 : BitVec 32 := 1#32
  let v606 : BitVec 32 := Scalar.muli v8 c1_i32_397
  let v607 : BitVec 32 := Scalar.addi v605 v606
  v607.toNat
def k0_dev31 (d0 : Dev nD) : Nat :=
  let c0_i32_415 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_414 : BitVec 32 := 4#32
  let v630 : BitVec 32 := Scalar.muli v10 c4_i32_414
  let v631 : BitVec 32 := Scalar.addi c0_i32_415 v630
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_416 : BitVec 32 := 2#32
  let v632 : BitVec 32 := Scalar.muli v5 c2_i32_416
  let v633 : BitVec 32 := Scalar.addi v631 v632
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_417 : BitVec 32 := 1#32
  let v634 : BitVec 32 := Scalar.muli v8 c1_i32_417
  let v635 : BitVec 32 := Scalar.addi v633 v634
  v635.toNat
def k0_off7 (d0 : Dev nD) (c512_i32_431 : BitVec 32) : Fin 2 → Nat :=
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c4096_i32_15 : BitVec 32 := 4096#32
  let v26 : BitVec 32 := Scalar.muli v25 c4096_i32_15
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_430 : BitVec 32 := 1024#32
  let v655 : BitVec 32 := Scalar.muli v16 c1024_i32_430
  let v656 : BitVec 32 := Scalar.addi v26 v655
  let v657 : BitVec 32 := Scalar.addi v656 c512_i32_431
  let c0_i32_438 : BitVec 32 := 0#32
  ![v657.toNat, 0]
def k0_dev32 (d0 : Dev nD) : Nat :=
  let c0_i32_435 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_434 : BitVec 32 := 4#32
  let v658 : BitVec 32 := Scalar.muli v2 c4_i32_434
  let v659 : BitVec 32 := Scalar.addi c0_i32_435 v658
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_436 : BitVec 32 := 2#32
  let v660 : BitVec 32 := Scalar.muli v5 c2_i32_436
  let v661 : BitVec 32 := Scalar.addi v659 v660
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_437 : BitVec 32 := 1#32
  let v662 : BitVec 32 := Scalar.muli v11 c1_i32_437
  let v663 : BitVec 32 := Scalar.addi v661 v662
  v663.toNat
def k0_dev33 (d0 : Dev nD) : Nat :=
  let c0_i32_455 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_454 : BitVec 32 := 4#32
  let v686 : BitVec 32 := Scalar.muli v2 c4_i32_454
  let v687 : BitVec 32 := Scalar.addi c0_i32_455 v686
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_456 : BitVec 32 := 2#32
  let v688 : BitVec 32 := Scalar.muli v5 c2_i32_456
  let v689 : BitVec 32 := Scalar.addi v687 v688
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_457 : BitVec 32 := 1#32
  let v690 : BitVec 32 := Scalar.muli v11 c1_i32_457
  let v691 : BitVec 32 := Scalar.addi v689 v690
  v691.toNat
def k0_dev34 (d0 : Dev nD) : Nat :=
  let c0_i32_475 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_474 : BitVec 32 := 4#32
  let v714 : BitVec 32 := Scalar.muli v2 c4_i32_474
  let v715 : BitVec 32 := Scalar.addi c0_i32_475 v714
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_476 : BitVec 32 := 2#32
  let v716 : BitVec 32 := Scalar.muli v5 c2_i32_476
  let v717 : BitVec 32 := Scalar.addi v715 v716
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_477 : BitVec 32 := 1#32
  let v718 : BitVec 32 := Scalar.muli v11 c1_i32_477
  let v719 : BitVec 32 := Scalar.addi v717 v718
  v719.toNat
def k0_dev35 (d0 : Dev nD) : Nat :=
  let c0_i32_495 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_494 : BitVec 32 := 4#32
  let v742 : BitVec 32 := Scalar.muli v2 c4_i32_494
  let v743 : BitVec 32 := Scalar.addi c0_i32_495 v742
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_496 : BitVec 32 := 2#32
  let v744 : BitVec 32 := Scalar.muli v5 c2_i32_496
  let v745 : BitVec 32 := Scalar.addi v743 v744
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_497 : BitVec 32 := 1#32
  let v746 : BitVec 32 := Scalar.muli v11 c1_i32_497
  let v747 : BitVec 32 := Scalar.addi v745 v746
  v747.toNat
def k0_off8 (d0 : Dev nD) (c0_i32_567 : BitVec 32) : Fin 2 → Nat :=
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c4096_i32_15 : BitVec 32 := 4096#32
  let v26 : BitVec 32 := Scalar.muli v25 c4096_i32_15
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_566 : BitVec 32 := 1024#32
  let v837 : BitVec 32 := Scalar.muli v23 c1024_i32_566
  let v838 : BitVec 32 := Scalar.addi v26 v837
  let v839 : BitVec 32 := Scalar.addi v838 c0_i32_567
  let c0_i32_574 : BitVec 32 := 0#32
  ![v839.toNat, 0]
-- ==== ReferenceIdeal.lean ====
abbrev S8192x2048 : Shape := ⟨2, ![8192, 2048]⟩

abbrev nBuf : Space → Nat
  | .hbm => 1
  | .vmem => 0
  | .smem => 0
  | _ => 0

abbrev bufTy : (tb : Table) → Fin (tcTables nBuf tb) → BufTy
  | .hbm, ⟨0, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Ops.lean ====
/-
The kernel's body as a list of operations.

The printed body is a long chain of operations cut into parts. Every operation after the device id
answers nothing, so the body is a plain list; this module writes that list by its loops (one entry
per phase and chunk, the chunk number symbolic) and proves the printed body equal to it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

noncomputable section

namespace Cert.MeshGather

open Cert.KernelIdeal Cert.KernelIdeal.Gen
open Idealize.ShloMosaic Idealize.ShloMosaic.TcCoe
open Idealize.SL Idealize.SL.Sem

variable {F : FTy → Type} [FloatOps F]

/-- An operation of the body that answers nothing. -/
abbrev Op (F : FTy → Type) : Type := TpuEff nD τ sig (Elt F) Λ₀ .tc PUnit

/-- A program of the body's operations. -/
abbrev Code (F : FTy → Type) (α : Type) : Type 1 := Prog (TpuEff nD τ sig (Elt F) Λ₀ .tc) α

/-- Run the operations of a list in order, then `k`. -/
def run {α : Type} : List (Op F) → Code F α → Code F α
  | [], k => k
  | e :: l, k => .op e fun _ => run l k

theorem run_append {α : Type} (l l' : List (Op F)) (k : Code F α) : run (l ++ l') k = run l (run l' k) := by
  induction l with
  | nil => rfl
  | cons e l ih => exact congrArg (fun x => Prog.op e fun _ => x) ih

/-! ## The memory windows the operations name -/

/-- The rows of `x` that a device sends to its `y` peer, chunk `r`. -/
def xSend (d : Dev nD) (r : Fin 8) : Memref sig .tc .hbm S128x1024 .f32 :=
  (Memref.whole main_arg0).slice (Rect.unit (s := S4096x2048) (k0_off2 d (BitVec.ofNat 32 (128 * r.val))) S128x1024.size (k0_off2_inb d r)) (fun _ => rfl)

/-- The columns of `x` that a device keeps. -/
def xKeep (d : Dev nD) : Memref sig .tc .hbm S4096x1024 .f32 :=
  (Memref.whole main_arg0).slice (Rect.unit (s := S4096x2048) (k0_off3 d) S4096x1024.size (k0_off3_inb d)) (fun _ => rfl)

/-- A device's own half of the result. -/
def oKeep (d : Dev nD) : Memref sig .tc .hbm S4096x1024 .f32 :=
  (Memref.whole main_v1).slice (Rect.unit (s := S8192x1024) (k0_off5 d) S4096x1024.size (k0_off5_inb d)) (fun _ => rfl)

/-- Where chunk `r` of the first transfer lands, in the `y` peer's result. -/
def oLand (d : Dev nD) (r : Fin 8) : Memref sig .tc .hbm S128x1024 .f32 :=
  (Memref.whole main_v1).slice (Rect.unit (s := S8192x1024) (k0_off1 d (BitVec.ofNat 32 (128 * r.val))) S128x1024.size (k0_off1_inb d r)) (fun _ => rfl)

/-- Chunk `r` of the quarter a device receives from its `y` peer. -/
def oMe (d : Dev nD) (r : Fin 8) : Memref sig .tc .hbm S128x1024 .f32 :=
  (Memref.whole main_v1).slice (Rect.unit (s := S8192x1024) (k0_off4 d (BitVec.ofNat 32 (128 * r.val))) S128x1024.size (k0_off4_inb d r)) (fun _ => rfl)

/-- Chunk `r` of the quarter a device receives from its `z` peer, its first half. -/
def oZ (d : Dev nD) (r : Fin 4) : Memref sig .tc .hbm S128x1024 .f32 :=
  (Memref.whole main_v1).slice (Rect.unit (s := S8192x1024) (k0_off6 d (BitVec.ofNat 32 (128 * r.val))) S128x1024.size (k0_off6_inb d r)) (fun _ => rfl)

/-- Chunk `4 + r` of the quarter a device receives from its `x` peer. -/
def oX (d : Dev nD) (r : Fin 4) : Memref sig .tc .hbm S128x1024 .f32 :=
  (Memref.whole main_v1).slice (Rect.unit (s := S8192x1024) (k0_off7 d (BitVec.ofNat 32 (512 + 128 * r.val))) S128x1024.size (k0_off7_inb d r)) (fun _ => rfl)

/-- Chunk `r` of the quarter opposite to the device's own. -/
def oDg (d : Dev nD) (r : Fin 8) : Memref sig .tc .hbm S128x1024 .f32 :=
  (Memref.whole main_v1).slice (Rect.unit (s := S8192x1024) (k0_off8 d (BitVec.ofNat 32 (128 * r.val))) S128x1024.size (k0_off8_inb d r)) (fun _ => rfl)

/-- The staging buffer. -/
abbrev stage : Memref sig .tc .vmem S4096x1024 .f32 := Memref.whole cc0_scratch11

/-! ## The devices the operations name, as printed -/

/-- The targets of the sends to the `y` peer. -/
def yTo : Fin 8 → Dev nD → ℕ := ![k0_dev4, k0_dev5, k0_dev6, k0_dev7, k0_dev8, k0_dev9, k0_dev10, k0_dev11]
/-- The targets of the first round's sends to the `x` peer. -/
def xaTo : Fin 8 → Dev nD → ℕ := ![k0_dev12, k0_dev14, k0_dev16, k0_dev18, k0_dev20, k0_dev22, k0_dev24, k0_dev26]
/-- The targets of the first round's sends to the `z` peer. -/
def zaTo : Fin 8 → Dev nD → ℕ := ![k0_dev13, k0_dev15, k0_dev17, k0_dev19, k0_dev21, k0_dev23, k0_dev25, k0_dev27]
/-- The targets of the second round's sends to the `x` peer. -/
def xbTo : Fin 4 → Dev nD → ℕ := ![k0_dev28, k0_dev29, k0_dev30, k0_dev31]
/-- The targets of the second round's sends to the `z` peer. -/
def zbTo : Fin 4 → Dev nD → ℕ := ![k0_dev32, k0_dev33, k0_dev34, k0_dev35]

theorem yTo_lt (r : Fin 8) (d : Dev nD) : yTo r d < nD := by revert r d; decide +kernel
theorem xaTo_lt (r : Fin 8) (d : Dev nD) : xaTo r d < nD := by revert r d; decide +kernel
theorem zaTo_lt (r : Fin 8) (d : Dev nD) : zaTo r d < nD := by revert r d; decide +kernel
theorem xbTo_lt (r : Fin 4) (d : Dev nD) : xbTo r d < nD := by revert r d; decide +kernel
theorem zbTo_lt (r : Fin 4) (d : Dev nD) : zbTo r d < nD := by revert r d; decide +kernel

/-! ## The operations -/

/-- DMA semaphore number `b + r`. -/
def at8 (b : ℕ) (h : b + 8 ≤ 66) (r : Fin 8) : DmaSem sig := ⟨b + r.val, by have := r.isLt; show b + r.val < 66; omega⟩
def at4 (b : ℕ) (h : b + 4 ≤ 66) (r : Fin 4) : DmaSem sig := ⟨b + r.val, by have := r.isLt; show b + r.val < 66; omega⟩

/-- A remote copy of a chunk into the result of device `n`. -/
def send (src dst : Memref sig .tc .hbm S128x1024 .f32) (n : Dev nD) (sS sR : DmaSem sig)
    (hs : src.view.WordExact) (hd : dst.view.WordExact) (hr : dst.view.ref.isScScratch = false) : Op F :=
  TpuEff.enqueueDma src (.remote (Dev.tc n) dst (.dma sS) hr) (.dma sR) hs hd ⟨⟨rfl, Or.inl rfl⟩, trivial⟩

/-- A wait for a chunk's transfer. -/
def waitChunk (s : DmaSem sig) (src dst : Memref sig .tc .hbm S128x1024 .f32) (hs : src.view.WordExact) (hd : dst.view.WordExact) : Op F :=
  TpuEff.waitDma2 s src dst hs hd

/-- A signal of one unit to the barrier of device `n`. -/
def signal (n : Dev nD) : Op F := TpuEff.semSignal (Dev.tc n) barrier0 ((1 : ℕ) : ℤ)

/-- The signals to the three peers, and the wait for theirs. -/
def opBarrier (d : Dev nD) : List (Op F) :=
  [signal ⟨k0_dev1 d, k0_dev1_lt d⟩, signal ⟨k0_dev2 d, k0_dev2_lt d⟩, signal ⟨k0_dev3 d, k0_dev3_lt d⟩, TpuEff.semWait barrier0 ((3 : ℕ) : ℤ)]

def opYSend (d : Dev nD) (r : Fin 8) : List (Op F) :=
  [send (xSend d r) (oLand d r) ⟨yTo r d, yTo_lt r d⟩ (at8 0 (by decide) r) (at8 8 (by decide) r) (View.wordExact_bits rfl) (View.wordExact_bits rfl) rfl]

def opCopyIn (d : Dev nD) : List (Op F) :=
  [TpuEff.enqueueDma (xKeep d) (.here stage) (.dma 64) (View.wordExact_bits rfl) (Memref.isWhole_whole _).wordExact ⟨Or.inl rfl, trivial⟩]

/-- Chunk `r` of the first transfer is waited for and sent on to both neighbours. -/
def opSpread (d : Dev nD) (r : Fin 8) : List (Op F) :=
  [waitChunk (at8 8 (by decide) r) (xSend d r) (oLand d r) (View.wordExact_bits rfl) (View.wordExact_bits rfl),
   send (oMe d r) (oMe d r) ⟨xaTo r d, xaTo_lt r d⟩ (at8 16 (by decide) r) (at8 24 (by decide) r) (View.wordExact_bits rfl) (View.wordExact_bits rfl) rfl,
   send (oMe d r) (oMe d r) ⟨zaTo r d, zaTo_lt r d⟩ (at8 32 (by decide) r) (at8 40 (by decide) r) (View.wordExact_bits rfl) (View.wordExact_bits rfl) rfl]

/-- The staged columns go out to the device's own half of the result. -/
def opCopyOut (d : Dev nD) : List (Op F) :=
  [TpuEff.waitDma2 64 (xKeep d) stage (View.wordExact_bits rfl) (Memref.isWhole_whole _).wordExact,
   TpuEff.enqueueDma stage (.here (oKeep d)) (.dma 65) (Memref.isWhole_whole _).wordExact (View.wordExact_bits rfl) ⟨Or.inl rfl, trivial⟩]

/-- The first half of the `z` quarter, chunk by chunk, sent on to the `x` peer. -/
def opXRelay (d : Dev nD) (r : Fin 4) : List (Op F) :=
  [waitChunk (at4 40 (by decide) r) (oMe d (r.castLE (by decide))) (oMe d (r.castLE (by decide))) (View.wordExact_bits rfl) (View.wordExact_bits rfl),
   send (oZ d r) (oZ d r) ⟨xbTo r d, xbTo_lt r d⟩ (at4 48 (by decide) r) (at4 52 (by decide) r) (View.wordExact_bits rfl) (View.wordExact_bits rfl) rfl]

/-- The second half of the `x` quarter, chunk by chunk, sent on to the `z` peer. -/
def opZRelay (d : Dev nD) (r : Fin 4) : List (Op F) :=
  [waitChunk (at4 28 (by decide) r) (oMe d (r.natAdd 4)) (oMe d (r.natAdd 4)) (View.wordExact_bits rfl) (View.wordExact_bits rfl),
   send (oX d r) (oX d r) ⟨zbTo r d, zbTo_lt r d⟩ (at4 56 (by decide) r) (at4 60 (by decide) r) (View.wordExact_bits rfl) (View.wordExact_bits rfl) rfl]

def opXRest (d : Dev nD) (r : Fin 4) : List (Op F) :=
  [waitChunk (at4 24 (by decide) r) (oMe d (r.castLE (by decide))) (oMe d (r.castLE (by decide))) (View.wordExact_bits rfl) (View.wordExact_bits rfl)]

def opZRest (d : Dev nD) (r : Fin 4) : List (Op F) :=
  [waitChunk (at4 44 (by decide) r) (oMe d (r.natAdd 4)) (oMe d (r.natAdd 4)) (View.wordExact_bits rfl) (View.wordExact_bits rfl)]

/-- The two halves of the opposite quarter arrive. -/
def opLast (d : Dev nD) (r : Fin 4) : List (Op F) :=
  [waitChunk (at4 52 (by decide) r) (oDg d (r.castLE (by decide))) (oDg d (r.castLE (by decide))) (View.wordExact_bits rfl) (View.wordExact_bits rfl),
   waitChunk (at4 60 (by decide) r) (oDg d (r.natAdd 4)) (oDg d (r.natAdd 4)) (View.wordExact_bits rfl) (View.wordExact_bits rfl)]

def opYDone (d : Dev nD) (r : Fin 8) : List (Op F) :=
  [waitChunk (at8 0 (by decide) r) (oLand d r) (xSend d r) (View.wordExact_bits rfl) (View.wordExact_bits rfl)]
def opXaDone (d : Dev nD) (r : Fin 8) : List (Op F) :=
  [waitChunk (at8 16 (by decide) r) (oMe d r) (oMe d r) (View.wordExact_bits rfl) (View.wordExact_bits rfl)]
def opZaDone (d : Dev nD) (r : Fin 8) : List (Op F) :=
  [waitChunk (at8 32 (by decide) r) (oMe d r) (oMe d r) (View.wordExact_bits rfl) (View.wordExact_bits rfl)]
def opXbDone (d : Dev nD) (r : Fin 4) : List (Op F) :=
  [waitChunk (at4 48 (by decide) r) (oZ d r) (oZ d r) (View.wordExact_bits rfl) (View.wordExact_bits rfl)]
def opZbDone (d : Dev nD) (r : Fin 4) : List (Op F) :=
  [waitChunk (at4 56 (by decide) r) (oX d r) (oX d r) (View.wordExact_bits rfl) (View.wordExact_bits rfl)]

def opOutDone (d : Dev nD) : List (Op F) :=
  [TpuEff.waitDma2 65 stage (oKeep d) (Memref.isWhole_whole _).wordExact (View.wordExact_bits rfl)]

/-- The chunk numbers in the order of the loops. -/
abbrev all8 : List (Fin 8) := [0, 1, 2, 3, 4, 5, 6, 7]
abbrev all4 : List (Fin 4) := [0, 1, 2, 3]

/-- Everything the body does after it reads its device. -/
def code (d : Dev nD) : Code F PUnit :=
  run (opBarrier d) <| run (all8.flatMap (opYSend d)) <| run (opCopyIn d) <| run (all8.flatMap (opSpread d)) <| run (opCopyOut d) <|
  run (all4.flatMap (opXRelay d)) <| run (all4.flatMap (opZRelay d)) <| run (all4.flatMap (opXRest d)) <| run (all4.flatMap (opZRest d)) <|
  run (all4.flatMap (opLast d)) <| run (all8.flatMap (opYDone d)) <| run (all8.flatMap (opXaDone d)) <| run (all8.flatMap (opZaDone d)) <|
  run (all4.flatMap (opXbDone d)) <| run (all4.flatMap (opZbDone d)) <| run (opOutDone d) <| Prog.ret ⟨⟩

set_option maxRecDepth 65536 in
/-- The printed body reads its device and then runs that list. -/
theorem body_eq : bodyAt0 (F := F) t0_0 = .op .deviceId fun d => code d := rfl

end Cert.MeshGather

end
-- ==== Proof.Mesh.lean ====
/-
The mesh and the chunks of the result.

A device's number written in binary is its position (x, y, z); a peer differs in one bit. The result of
a device is its own half (copied locally) and 32 chunks of 128 rows, one for each transfer that
arrives. This module says which chunk each transfer fills, and that the windows the operations name
are these chunks.
-/
module

public import proofs.«01_k».proof.Proof.Ops

@[expose] public section

set_option maxRecDepth 16384

noncomputable section

namespace Cert.MeshGather

open Cert.KernelIdeal Cert.KernelIdeal.Gen
open Idealize.ShloMosaic Idealize.ShloMosaic.TcCoe
open Idealize.SL Idealize.SL.Sem

/-! ## Peers -/

/-- The peer across axis `a` of the mesh: 0 is `y`, 1 is `x`, 2 is `z`. -/
def pr (a : Fin 3) (c : Dev nD) : Dev nD :=
  ⟨(![2, 4, 1] : Fin 3 → ℕ) a ^^^ c.val, by revert a c; decide⟩

theorem pr_pr (a : Fin 3) (c : Dev nD) : pr a (pr a c) = c := by revert a c; decide

/-- Crossing an axis twice comes back: a permutation of the devices. -/
def prPerm (a : Fin 3) : Dev nD ≃ Dev nD := ⟨pr a, pr a, pr_pr a, pr_pr a⟩

theorem pr_y (c : Dev nD) : (pr 0 c).val = (4 * (c.val / 4) + c.val % 2 + 2) - 2 * (c.val / 2 % 2) := by revert c; decide
theorem pr_x (c : Dev nD) : (pr 1 c).val = (2 * (c.val / 2 % 2) + c.val % 2 + 4) - 4 * (c.val / 4) := by revert c; decide
theorem pr_z (c : Dev nD) : (pr 2 c).val = (4 * (c.val / 4) + 2 * (c.val / 2 % 2) + 1) - c.val % 2 := by revert c; decide

theorem dev1_eq (c : Dev nD) : (⟨k0_dev1 c, k0_dev1_lt c⟩ : Dev nD) = pr 0 c := by revert c; decide +kernel
theorem dev2_eq (c : Dev nD) : (⟨k0_dev2 c, k0_dev2_lt c⟩ : Dev nD) = pr 1 c := by revert c; decide +kernel
theorem dev3_eq (c : Dev nD) : (⟨k0_dev3 c, k0_dev3_lt c⟩ : Dev nD) = pr 2 c := by revert c; decide +kernel
theorem yTo_eq (r : Fin 8) (c : Dev nD) : (⟨yTo r c, yTo_lt r c⟩ : Dev nD) = pr 0 c := by revert r c; decide +kernel
theorem xaTo_eq (r : Fin 8) (c : Dev nD) : (⟨xaTo r c, xaTo_lt r c⟩ : Dev nD) = pr 1 c := by revert r c; decide +kernel
theorem zaTo_eq (r : Fin 8) (c : Dev nD) : (⟨zaTo r c, zaTo_lt r c⟩ : Dev nD) = pr 2 c := by revert r c; decide +kernel
theorem xbTo_eq (r : Fin 4) (c : Dev nD) : (⟨xbTo r c, xbTo_lt r c⟩ : Dev nD) = pr 1 c := by revert r c; decide +kernel
theorem zbTo_eq (r : Fin 4) (c : Dev nD) : (⟨zbTo r c, zbTo_lt r c⟩ : Dev nD) = pr 2 c := by revert r c; decide +kernel

/-! ## Transfers -/

/-- The remote transfers a device starts: to its `y` peer (`y`), in the first round to its `x` and `z`
    peers (`xa`, `za`), in the second round to them (`xb`, `zb`). A device receives as many. -/
inductive Ch where
  | y (r : Fin 8)
  | xa (r : Fin 8)
  | za (r : Fin 8)
  | xb (r : Fin 4)
  | zb (r : Fin 4)
deriving DecidableEq

namespace Ch

/-- The axis the transfer crosses. -/
def dir : Ch → Fin 3
  | y _ => 0 | xa _ => 1 | za _ => 2 | xb _ => 1 | zb _ => 2

/-- The semaphore of the transfer at its source. -/
def sS : Ch → DmaSem sig
  | y r => at8 0 (by decide) r | xa r => at8 16 (by decide) r | za r => at8 32 (by decide) r
  | xb r => at4 48 (by decide) r | zb r => at4 56 (by decide) r

/-- The semaphore of the transfer at its target. -/
def sR : Ch → DmaSem sig
  | y r => at8 8 (by decide) r | xa r => at8 24 (by decide) r | za r => at8 40 (by decide) r
  | xb r => at4 52 (by decide) r | zb r => at4 60 (by decide) r

/-- The five families side by side. -/
def equivSum : Ch ≃ Fin 8 ⊕ Fin 8 ⊕ Fin 8 ⊕ Fin 4 ⊕ Fin 4 where
  toFun
    | y r => .inl r | xa r => .inr (.inl r) | za r => .inr (.inr (.inl r))
    | xb r => .inr (.inr (.inr (.inl r))) | zb r => .inr (.inr (.inr (.inr r)))
  invFun
    | .inl r => y r | .inr (.inl r) => xa r | .inr (.inr (.inl r)) => za r
    | .inr (.inr (.inr (.inl r))) => xb r | .inr (.inr (.inr (.inr r))) => zb r
  left_inv c := by cases c <;> rfl
  right_inv c := by rcases c with c | c | c | c | c <;> rfl

end Ch

instance : Fintype Ch := Fintype.ofEquiv _ Ch.equivSum.symm

/-- The device the transfer goes to (and, for a device's arrivals, comes from). -/
abbrev tgt (ch : Ch) (c : Dev nD) : Dev nD := pr ch.dir c

theorem tgt_tgt (ch : Ch) (c : Dev nD) : tgt ch (tgt ch c) = c := pr_pr _ _

/-! ## Chunks -/

/-- The number of the 128-row chunk of the result of device `c` that transfer `ch` fills. -/
def fillN (c : ℕ) : Ch → ℕ
  | .y r => 32 * (1 - c / 2 % 2) + 8 * (2 * (c / 4) + c % 2) + r.val
  | .xa r => 32 * (1 - c / 2 % 2) + 8 * (2 * (1 - c / 4) + c % 2) + r.val
  | .za r => 32 * (1 - c / 2 % 2) + 8 * (2 * (c / 4) + (1 - c % 2)) + r.val
  | .xb r => 32 * (1 - c / 2 % 2) + 8 * (2 * (1 - c / 4) + (1 - c % 2)) + r.val
  | .zb r => 32 * (1 - c / 2 % 2) + 8 * (2 * (1 - c / 4) + (1 - c % 2)) + (4 + r.val)

theorem fillN_lt (c : Dev nD) (ch : Ch) : fillN c.val ch < 64 := by
  have hc : c.val < 8 := c.isLt
  rcases ch with r | r | r | r | r <;> have := r.isLt <;> simp only [fillN] <;> omega

/-- The chunk of the result of device `c` that transfer `ch` fills. -/
def fill (c : Dev nD) (ch : Ch) : Fin 64 := ⟨fillN c.val ch, fillN_lt c ch⟩

theorem inbC (k : Fin 64) : ∀ a, (![128 * k.val, 0] : Fin 2 → ℕ) a + S128x1024.size a ≤ S8192x1024.size a := by
  revert k; decide

/-- Chunk `k` of the result. -/
def oC (k : Fin 64) : Memref sig .tc .hbm S128x1024 .f32 :=
  (Memref.whole main_v1).slice (Rect.unit (s := S8192x1024) ![128 * k.val, 0] S128x1024.size (inbC k)) (fun _ => rfl)

/-- A window of the result at a chunk's offset is that chunk. -/
theorem slice_eq_oC {off : Fin 2 → ℕ} (inb : ∀ a, off a + S128x1024.size a ≤ S8192x1024.size a) (k : Fin 64) (h : off = ![128 * k.val, 0]) :
    (Memref.whole main_v1).slice (Rect.unit (s := S8192x1024) off S128x1024.size inb) (fun _ => rfl) = oC k :=
  Memref.slice_unit_congr _ h _ _ (fun _ => rfl) (fun _ => rfl)

theorem vec_eq {a b : ℕ} (h : a = b) : (![a, 0] : Fin 2 → ℕ) = ![b, 0] := by rw [h]

theorem oLand_eq (c : Dev nD) (r : Fin 8) : oLand c r = oC (fill (tgt (.y r) c) (.y r)) :=
  slice_eq_oC _ _ <| (k0_off1_eq c r).trans <| vec_eq <| by
    have hc : c.val < 8 := c.isLt
    have hp := pr_y c
    show _ = 128 * fillN (pr 0 c).val (.y r)
    simp only [fillN, hp]; omega

theorem oMe_eq (c : Dev nD) (r : Fin 8) : oMe c r = oC (fill c (.y r)) :=
  slice_eq_oC _ _ <| (k0_off4_eq c r).trans <| vec_eq <| by
    have hc : c.val < 8 := c.isLt
    show _ = 128 * fillN c.val (.y r)
    simp only [fillN]; omega

theorem oZ_eq (c : Dev nD) (r : Fin 4) : oZ c r = oC (fill c (.za (r.castLE (by decide)))) :=
  slice_eq_oC _ _ <| (k0_off6_eq c r).trans <| vec_eq <| by
    have hc : c.val < 8 := c.isLt
    show _ = 128 * fillN c.val (.za (r.castLE (by decide)))
    simp only [fillN, Fin.val_castLE]; omega

theorem oX_eq (c : Dev nD) (r : Fin 4) : oX c r = oC (fill c (.xa (r.natAdd 4))) :=
  slice_eq_oC _ _ <| (k0_off7_eq c r).trans <| vec_eq <| by
    have hc : c.val < 8 := c.isLt
    show _ = 128 * fillN c.val (.xa (r.natAdd 4))
    simp only [fillN, Fin.val_natAdd]; omega

/-- What a device sends on in the first round fills the chunk it sits in itself. -/
theorem fill_xa (c : Dev nD) (r : Fin 8) : fill (tgt (.xa r) c) (.xa r) = fill c (.y r) := by
  have hc : c.val < 8 := c.isLt
  have hp := pr_x c
  refine Fin.ext (show fillN (pr 1 c).val (.xa r) = fillN c.val (.y r) from ?_)
  simp only [fillN, hp]; omega
theorem fill_za (c : Dev nD) (r : Fin 8) : fill (tgt (.za r) c) (.za r) = fill c (.y r) := by
  have hc : c.val < 8 := c.isLt
  have hp := pr_z c
  refine Fin.ext (show fillN (pr 2 c).val (.za r) = fillN c.val (.y r) from ?_)
  simp only [fillN, hp]; omega
/-- And in the second round. -/
theorem fill_xb (c : Dev nD) (r : Fin 4) : fill (tgt (.xb r) c) (.xb r) = fill c (.za (r.castLE (by decide))) := by
  have hc : c.val < 8 := c.isLt
  have hp := pr_x c
  refine Fin.ext (show fillN (pr 1 c).val (.xb r) = fillN c.val (.za (r.castLE (by decide))) from ?_)
  simp only [fillN, hp, Fin.val_castLE]; omega
theorem fill_zb (c : Dev nD) (r : Fin 4) : fill (tgt (.zb r) c) (.zb r) = fill c (.xa (r.natAdd 4)) := by
  have hc : c.val < 8 := c.isLt
  have hp := pr_z c
  refine Fin.ext (show fillN (pr 2 c).val (.zb r) = fillN c.val (.xa (r.natAdd 4)) from ?_)
  simp only [fillN, hp, Fin.val_natAdd]; omega

/-- Every chunk a transfer fills lies in the half that is not the device's own. -/
theorem fill_half (c : Dev nD) (ch : Ch) : (fill c ch).val / 32 = 1 - c.val / 2 % 2 := by
  have hc : c.val < 8 := c.isLt
  show fillN c.val ch / 32 = _
  rcases ch with r | r | r | r | r <;> have := r.isLt <;> simp only [fillN] <;> omega

theorem fill_inj (c : Dev nD) : Function.Injective (fill c) := by
  have h : ∀ (c : Dev nD) (a b : Ch), fill c a = fill c b → a = b := by decide +kernel
  exact h c

/-- And every chunk of that half is filled. -/
theorem fill_onto (c : Dev nD) (k : Fin 64) (h : k.val / 32 = 1 - c.val / 2 % 2) : ∃ ch, fill c ch = k := by
  revert c k; decide +kernel

end Cert.MeshGather

end
-- ==== Proof.Contents.lean ====
/-
What the arrays hold.

`G m c` is the result of device `c` once everything has arrived, as a function of the memory `m` at
launch: its own half is its own columns of its `x`, and each quarter of the other half comes from one
device across `y`. The module shows that each copy writes exactly these contents where it lands.
-/
module

public import proofs.«01_k».proof.Proof.Mesh

@[expose] public section

set_option maxRecDepth 16384

noncomputable section

namespace Cert.MeshGather

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- The index (row, column) of `x`. -/
def xi (p q : ℕ) (hp : p < 4096) (hq : q < 2048) : S4096x2048.Idx :=
  fun a => match a with
    | 0 => ⟨p, hp⟩
    | 1 => ⟨q, hq⟩

/-- The device whose `x` holds row `row` of the result of device `c`. -/
def src (c : Dev nD) (row : ℕ) : Dev nD :=
  if row / 4096 = c.val / 2 % 2 then c
  else ⟨4 * (row / 2048 % 2) + 2 * (1 - c.val / 2 % 2) + row / 1024 % 2, by show _ < 8; omega⟩

/-- `x` of device `c` at launch. -/
abbrev xC (c : Dev nD) : S4096x2048.Idx → Elt F .f32 := m ((c : Thread nD τ).loc main_arg0)

/-- The result of device `c`. -/
def G (c : Dev nD) : S8192x1024.Idx → Elt F .f32 := fun i =>
  xC m (src c (i 0).val) (xi ((i 0).val % 4096) (1024 * (c.val / 2 % 2) + (i 1).val) (Nat.mod_lt _ (by decide))
    (by have h : (i 1).val < 1024 := (i 1).isLt; omega))

/-- The staging buffer of device `c` once its own columns are in. -/
def stC (c : Dev nD) : S4096x1024.Idx → Elt F .f32 := fun j =>
  xC m c (xi (j 0).val (1024 * (c.val / 2 % 2) + (j 1).val) (j 0).isLt
    (by have h : (j 1).val < 1024 := (j 1).isLt; omega))

/-- Rows outside the own half come from the same device for both devices across an axis other than `y`. -/
theorem src_pr (a : Fin 3) (ha : a ≠ 0) (c : Dev nD) (row : ℕ) (h : row / 4096 = 1 - c.val / 2 % 2) : src (pr a c) row = src c row := by
  have hc : c.val < 8 := c.isLt
  have hy : (pr a c).val / 2 % 2 = c.val / 2 % 2 := by clear h hc; revert ha; revert a c; decide
  unfold src
  rw [if_neg (by rw [hy]; omega), if_neg (by omega)]
  exact Fin.ext (by show 4 * (row / 2048 % 2) + 2 * (1 - (pr a c).val / 2 % 2) + row / 1024 % 2 = _; rw [hy])

theorem G_pr (a : Fin 3) (ha : a ≠ 0) (c : Dev nD) (i : S8192x1024.Idx) (h : (i 0).val / 4096 = 1 - c.val / 2 % 2) : G m (pr a c) i = G m c i := by
  have hy : (pr a c).val / 2 % 2 = c.val / 2 % 2 := by clear h; revert ha; revert a c; decide
  unfold G
  rw [src_pr a ha c _ h]
  congr 2
  rw [hy]

/-- An element of the result, by the device and the index its value comes from. -/
theorem G_eq (c d : Dev nD) (i : S8192x1024.Idx) (k : S4096x2048.Idx) (hd : src c (i 0).val = d)
    (h0 : (k 0).val = (i 0).val % 4096) (h1 : (k 1).val = 1024 * (c.val / 2 % 2) + (i 1).val) : xC m d k = G m c i := by
  subst hd
  unfold G
  congr 1
  funext a
  match a with
  | 0 => exact Fin.ext h0
  | 1 => exact Fin.ext h1

/-! ## Where a window's indices sit -/

/-- The elements of a rectangle of a whole buffer. -/
theorem mem_unit (b : Ref sig .tc) {off size : Fin b.ty.shape.rank → ℕ} {inb h} (i : b.ty.Idx) :
    i ∈ ((Memref.whole b).slice (Rect.unit (s := b.ty.shape) off size inb) h).view.set ↔ ∀ a, off a ≤ (i a).val ∧ (i a).val < off a + size a := by
  have e : ((Memref.whole b).slice (Rect.unit (s := b.ty.shape) off size inb) h).view.set = (Rect.unit (s := b.ty.shape) off size inb).set :=
    View.set_slice_whole b _
  exact (iff_of_eq (congrArg (i ∈ ·) e)).trans Rect.mem_set_unit

/-- The elements of chunk `k` of the result; of the own half of the result; of the own columns of `x`; of chunk `r` of `x`
    that goes across `y`; of the staging buffer. -/
def oSet (k : Fin 64) : Finset S8192x1024.Idx := (oC k).view.set
def keepSet (c : Dev nD) : Finset S8192x1024.Idx := (oKeep c).view.set
def xKeepSet (c : Dev nD) : Finset S4096x2048.Idx := (xKeep c).view.set
def xSet (c : Dev nD) (r : Fin 8) : Finset S4096x2048.Idx := (xSend c r).view.set

theorem mem_oC (k : Fin 64) (i : S8192x1024.Idx) : i ∈ oSet k ↔ (i 0).val / 128 = k.val := by
  refine (mem_unit (off := ![128 * k.val, 0]) (size := S128x1024.size) main_v1 i (inb := inbC k) (h := fun _ => rfl)).trans ?_
  have h1 : (i 1).val < 1024 := (i 1).isLt
  constructor
  · intro h
    have h0 : 128 * k.val ≤ (i 0).val ∧ (i 0).val < 128 * k.val + 128 := h 0
    omega
  · intro h a
    match a with
    | 0 => show 128 * k.val ≤ (i 0).val ∧ (i 0).val < 128 * k.val + 128; omega
    | 1 => show 0 ≤ (i 1).val ∧ (i 1).val < 0 + 1024; omega

theorem mem_oKeep (c : Dev nD) (i : S8192x1024.Idx) : i ∈ keepSet c ↔ (i 0).val / 4096 = c.val / 2 % 2 := by
  refine (mem_unit (off := k0_off5 c) (size := S4096x1024.size) main_v1 i (inb := k0_off5_inb c) (h := fun _ => rfl)).trans ?_
  have h1 : (i 1).val < 1024 := (i 1).isLt
  have h2 : (i 0).val < 8192 := (i 0).isLt
  rw [k0_off5_eq]
  constructor
  · intro h
    have h0 : 4096 * (c.val / 2 % 2) ≤ (i 0).val ∧ (i 0).val < 4096 * (c.val / 2 % 2) + 4096 := h 0
    omega
  · intro h a
    match a with
    | 0 => show 4096 * (c.val / 2 % 2) ≤ (i 0).val ∧ (i 0).val < 4096 * (c.val / 2 % 2) + 4096; omega
    | 1 => show 0 ≤ (i 1).val ∧ (i 1).val < 0 + 1024; omega

theorem mem_xKeep (c : Dev nD) (i : S4096x2048.Idx) : i ∈ xKeepSet c ↔ (i 1).val / 1024 = c.val / 2 % 2 := by
  refine (mem_unit (off := k0_off3 c) (size := S4096x1024.size) main_arg0 i (inb := k0_off3_inb c) (h := fun _ => rfl)).trans ?_
  have h1 : (i 1).val < 2048 := (i 1).isLt
  have h2 : (i 0).val < 4096 := (i 0).isLt
  rw [k0_off3_eq]
  constructor
  · intro h
    have h0 : 1024 * (c.val / 2 % 2) ≤ (i 1).val ∧ (i 1).val < 1024 * (c.val / 2 % 2) + 1024 := h 1
    omega
  · intro h a
    match a with
    | 0 => show 0 ≤ (i 0).val ∧ (i 0).val < 0 + 4096; omega
    | 1 => show 1024 * (c.val / 2 % 2) ≤ (i 1).val ∧ (i 1).val < 1024 * (c.val / 2 % 2) + 1024; omega

/-- The first row and column of chunk `r` of `x` that goes across `y`. -/
theorem off2_val (c : Dev nD) (r : Fin 8) : k0_off2 c (BitVec.ofNat 32 (128 * r.val)) =
    ![2048 * (c.val / 4) + 1024 * (c.val % 2) + 128 * r.val, 1024 - 1024 * (c.val / 2 % 2)] := by
  revert c r; decide

theorem mem_xSend (c : Dev nD) (r : Fin 8) (i : S4096x2048.Idx) : i ∈ xSet c r ↔
    (i 1).val / 1024 = 1 - c.val / 2 % 2 ∧ (i 0).val / 128 = 8 * (2 * (c.val / 4) + c.val % 2) + r.val := by
  refine (mem_unit (off := k0_off2 c (BitVec.ofNat 32 (128 * r.val))) (size := S128x1024.size) main_arg0 i (inb := k0_off2_inb c r) (h := fun _ => rfl)).trans ?_
  have h1 : (i 1).val < 2048 := (i 1).isLt
  have h2 : (i 0).val < 4096 := (i 0).isLt
  rw [off2_val]
  constructor
  · intro h
    have h0 : 2048 * (c.val / 4) + 1024 * (c.val % 2) + 128 * r.val ≤ (i 0).val ∧ (i 0).val < 2048 * (c.val / 4) + 1024 * (c.val % 2) + 128 * r.val + 128 := h 0
    have h0 : 1024 - 1024 * (c.val / 2 % 2) ≤ (i 1).val ∧ (i 1).val < 1024 - 1024 * (c.val / 2 % 2) + 1024 := h 1
    omega
  · intro h a
    match a with
    | 0 => show 2048 * (c.val / 4) + 1024 * (c.val % 2) + 128 * r.val ≤ (i 0).val ∧ (i 0).val < 2048 * (c.val / 4) + 1024 * (c.val % 2) + 128 * r.val + 128; omega
    | 1 => show 1024 - 1024 * (c.val / 2 % 2) ≤ (i 1).val ∧ (i 1).val < 1024 - 1024 * (c.val / 2 % 2) + 1024; omega

/-! ## The copies -/

/-- A copy writes the source's elements, each at its place. -/
theorem copy_at {sp sp' : Space} {s : Shape} (S : View sig .tc sp s .f32) (D : View sig .tc sp' s .f32)
    (fs : S.ty.Contents (Elt F)) (fd g : D.ty.Contents (Elt F))
    (h : ∀ j, _root_.cast (congrArg (Elt F) D.elt_eq.symm) (S.read (Elt F) fs j) = g (D.emb j)) :
    ∀ i ∈ D.set, D.write (Elt F) fd (S.read (Elt F) fs) Finset.univ i = g i := by
  intro i hi
  obtain ⟨j, -, rfl⟩ := Finset.mem_map.mp hi
  rw [View.write_emb_of_mem _ _ (Finset.mem_univ _)]
  exact h j

/-- A chunk sent on lands unchanged in the same chunk. -/
theorem relay_at (k : Fin 64) (fd f : S8192x1024.Idx → Elt F .f32) :
    ∀ i ∈ (oC k).view.set, (oC k).view.write (Elt F) fd ((oC k).view.read (Elt F) f) Finset.univ i = f i :=
  copy_at (oC k).view (oC k).view f fd f fun j => rfl

/-- The first row of the chunk of the `y` peer's result that chunk `r` fills. -/
theorem fill_y_val (c : Dev nD) (r : Fin 8) : (fill (pr 0 c) (.y r)).val = 32 * (c.val / 2 % 2) + 8 * (2 * (c.val / 4) + c.val % 2) + r.val := by
  revert c r; decide

/-- Where a row of that chunk lies in the result: which half, which quarter, and which row of the half. -/
theorem row_val {x y z r j : ℕ} (hx : x < 2) (hy : y < 2) (hz : z < 2) (hr : r < 8) (hj : j < 128) :
    (128 * (32 * y + 8 * (2 * x + z) + r) + 1 * j) / 4096 = y ∧ (128 * (32 * y + 8 * (2 * x + z) + r) + 1 * j) / 2048 % 2 = x
      ∧ (128 * (32 * y + 8 * (2 * x + z) + r) + 1 * j) / 1024 % 2 = z
      ∧ (128 * (32 * y + 8 * (2 * x + z) + r) + 1 * j) % 4096 = 2048 * x + 1024 * z + 128 * r + 1 * j := by
  refine ⟨?_, ?_, ?_, ?_⟩ <;> omega

/-- A chunk of `x` lands where the result of the `y` peer wants it. -/
theorem y_at (c : Dev nD) (r : Fin 8) (fd : S8192x1024.Idx → Elt F .f32) :
    ∀ i ∈ (oC (fill (pr 0 c) (.y r))).view.set,
      (oC (fill (pr 0 c) (.y r))).view.write (Elt F) fd ((xSend c r).view.read (Elt F) (xC m c)) Finset.univ i = G m (pr 0 c) i :=
  copy_at (xSend c r).view (oC (fill (pr 0 c) (.y r))).view (xC m c) fd (G m (pr 0 c)) fun j => by
    have hc : c.val < 8 := c.isLt
    have hj0 : (j 0).val < 128 := (j 0).isLt
    have hj1 : (j 1).val < 1024 := (j 1).isLt
    have hr := r.isLt
    have hv := fill_y_val c r
    have hp : (pr 0 c).val / 2 % 2 = 1 - c.val / 2 % 2 ∧ (pr 0 c).val / 4 = c.val / 4 ∧ (pr 0 c).val % 2 = c.val % 2 := by
      clear hv hc; revert c; decide
    have s0 : k0_off2 c (BitVec.ofNat 32 (128 * r.val)) 0 = 2048 * (c.val / 4) + 1024 * (c.val % 2) + 128 * r.val := congrFun (off2_val c r) 0
    have s1 : k0_off2 c (BitVec.ofNat 32 (128 * r.val)) 1 = 1024 - 1024 * (c.val / 2 % 2) := congrFun (off2_val c r) 1
    have hw := row_val (x := c.val / 4) (y := c.val / 2 % 2) (z := c.val % 2) (by omega) (by omega) (by omega) hr hj0
    refine G_eq m (pr 0 c) c _ _ ?_ ?_ ?_
    · show src (pr 0 c) (128 * (fill (pr 0 c) (.y r)).val + 1 * (j 0).val) = c
      rw [hv]
      unfold src
      rw [if_neg (by rw [hw.1, hp.1]; omega)]
      exact Fin.ext (by show 4 * _ + 2 * (1 - (pr 0 c).val / 2 % 2) + _ = c.val; rw [hw.2.1, hw.2.2.1, hp.1]; omega)
    · show k0_off2 c (BitVec.ofNat 32 (128 * r.val)) 0 + 1 * (j 0).val = (128 * (fill (pr 0 c) (.y r)).val + 1 * (j 0).val) % 4096
      rw [hv, hw.2.2.2, s0]
    · show k0_off2 c (BitVec.ofNat 32 (128 * r.val)) 1 + 1 * (j 1).val = 1024 * ((pr 0 c).val / 2 % 2) + (0 + 1 * (j 1).val)
      omega

/-- The own columns land in the staging buffer. -/
theorem in_at (c : Dev nD) (fd : S4096x1024.Idx → Elt F .f32) :
    ∀ i ∈ stage.view.set, stage.view.write (Elt F) fd ((xKeep c).view.read (Elt F) (xC m c)) Finset.univ i = stC m c i :=
  copy_at (xKeep c).view stage.view (xC m c) fd (stC m c) fun j => by
    have s0 : k0_off3 c 0 = 0 := congrFun (k0_off3_eq c) 0
    have s1 : k0_off3 c 1 = 1024 * (c.val / 2 % 2) := congrFun (k0_off3_eq c) 1
    show xC m c _ = xC m c _
    refine congrArg (xC m c) (funext fun (a : Fin 2) => ?_)
    match a with
    | 0 => exact Fin.ext (by show k0_off3 c 0 + 1 * (j 0).val = (j 0).val; omega)
    | 1 => exact Fin.ext (by show k0_off3 c 1 + 1 * (j 1).val = 1024 * (c.val / 2 % 2) + (j 1).val; omega)

/-- The staging buffer lands in the own half of the result. -/
theorem out_at (c : Dev nD) (fd : S8192x1024.Idx → Elt F .f32) :
    ∀ i ∈ (oKeep c).view.set, (oKeep c).view.write (Elt F) fd (stage.view.read (Elt F) (stC m c)) Finset.univ i = G m c i :=
  copy_at stage.view (oKeep c).view (stC m c) fd (G m c) fun j => by
    have s0 : k0_off5 c 0 = 4096 * (c.val / 2 % 2) := congrFun (k0_off5_eq c) 0
    have s1 : k0_off5 c 1 = 0 := congrFun (k0_off5_eq c) 1
    have hj0 : (j 0).val < 4096 := (j 0).isLt
    refine G_eq m c c _ _ ?_ ?_ ?_
    · show src c (k0_off5 c 0 + 1 * (j 0).val) = c
      unfold src
      exact if_pos (by omega)
    · show (j 0).val = (k0_off5 c 0 + 1 * (j 0).val) % 4096
      omega
    · show 1024 * (c.val / 2 % 2) + (j 1).val = 1024 * (c.val / 2 % 2) + (k0_off5 c 1 + 1 * (j 1).val)
      omega

/-! ## How the windows cut the arrays -/

/-- Two chunks of the result do not meet. -/
theorem oC_disjoint {k k' : Fin 64} (h : k ≠ k') : Disjoint (oSet k) (oSet k') := by
  refine Finset.disjoint_left.mpr fun i hi hi' => h (Fin.ext ?_)
  rw [← (mem_oC k i).mp hi, ← (mem_oC k' i).mp hi']

/-- The elements that arrive from other devices. -/
def farSet (c : Dev nD) : Finset S8192x1024.Idx := Finset.univ.biUnion fun ch : Ch => oSet (fill c ch)

theorem mem_farSet (c : Dev nD) (i : S8192x1024.Idx) : i ∈ farSet c ↔ (i 0).val / 4096 = 1 - c.val / 2 % 2 := by
  have h0 : (i 0).val < 8192 := (i 0).isLt
  unfold farSet
  rw [Finset.mem_biUnion]
  constructor
  · rintro ⟨ch, -, h⟩
    have := (mem_oC _ i).mp h
    have := fill_half c ch
    omega
  · intro h
    obtain ⟨ch, hch⟩ := fill_onto c ⟨(i 0).val / 128, by omega⟩ (by show (i 0).val / 128 / 32 = _; omega)
    exact ⟨ch, Finset.mem_univ _, (mem_oC _ i).mpr (by rw [hch])⟩

theorem keep_far_disjoint (c : Dev nD) : Disjoint (keepSet c) (farSet c) := by
  refine Finset.disjoint_left.mpr fun i hi hi' => ?_
  have h1 := (mem_oKeep c i).mp hi
  have h2 := (mem_farSet c i).mp hi'
  omega

theorem keep_far_univ (c : Dev nD) : keepSet c ∪ farSet c = Finset.univ := by
  refine Finset.eq_univ_of_forall fun i => ?_
  have h0 : (i 0).val < 8192 := (i 0).isLt
  rw [Finset.mem_union]
  by_cases h : (i 0).val / 4096 = c.val / 2 % 2
  · exact .inl ((mem_oKeep c i).mpr h)
  · exact .inr ((mem_farSet c i).mpr (by omega))

/-- The elements of `x` that go across `y`. -/
def sentSet (c : Dev nD) : Finset S4096x2048.Idx := Finset.univ.biUnion fun r : Fin 8 => xSet c r

theorem xSend_disjoint (c : Dev nD) {r r' : Fin 8} (h : r ≠ r') : Disjoint (xSet c r) (xSet c r') := by
  refine Finset.disjoint_left.mpr fun i hi hi' => h (Fin.ext ?_)
  have h1 := ((mem_xSend c r i).mp hi).2
  have h2 := ((mem_xSend c r' i).mp hi').2
  omega

theorem xKeep_sent_disjoint (c : Dev nD) : Disjoint (xKeepSet c) (sentSet c) := by
  refine Finset.disjoint_left.mpr fun i hi hi' => ?_
  obtain ⟨r, -, hr⟩ := Finset.mem_biUnion.mp hi'
  have h1 := (mem_xKeep c i).mp hi
  have h2 := ((mem_xSend c r i).mp hr).1
  omega

end Cert.MeshGather

end
-- ==== Proof.Schedule.lean ====
/-
Who waits for what.

A device has 67 semaphores that matter: the barrier, one at the source and one at the target of each of its
transfers, and two for the copies through the staging buffer. Each is used for one round. The module names
them by their role, states what each one hands over to the device that waits on it, with contents, and orders
them by level, so that a device waits only below what it still owes.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.MeshGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's part and this kernel's rounds -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Roles -/

/-- What a DMA semaphore is for: the source of a transfer, the target of one, or a copy through the staging buffer. -/
abbrev Role : Type := Ch ⊕ Ch ⊕ Fin 2

/-- The semaphore with a role. -/
def semOf : Role → DmaSem sig
  | .inl ch => ch.sS
  | .inr (.inl ch) => ch.sR
  | .inr (.inr i) => ⟨64 + i.val, by have := i.isLt; show 64 + i.val < 66; omega⟩

theorem semOf_bijective : Function.Bijective semOf := by
  have h1 : ∀ r r' : Role, semOf r = semOf r' → r = r' := by decide +kernel
  have h2 : ∀ q : DmaSem sig, ∃ r, semOf r = q := by decide +kernel
  exact ⟨h1, h2⟩

/-- The roles are the semaphores. -/
def roleEquiv : Role ≃ DmaSem sig := Equiv.ofBijective semOf semOf_bijective

/-- The role of a semaphore. -/
def roleOf (q : DmaSem sig) : Role := roleEquiv.symm q

theorem roleOf_semOf (r : Role) : roleOf (semOf r) = r := roleEquiv.symm_apply_apply r

abbrev barCell (c : Dev nD) : GSem nD τ sig := ((c : Thread nD τ), .reg barrier0)
abbrev cell (c : Dev nD) (r : Role) : GSem nD τ sig := ((c : Thread nD τ), .dma (semOf r))
/-- The cell at the source of device `c`'s transfer, at the target of one that comes to `c`, of its copy in, of its copy out. -/
abbrev sndCell (c : Dev nD) (ch : Ch) : GSem nD τ sig := cell c (.inl ch)
abbrev rcvCell (c : Dev nD) (ch : Ch) : GSem nD τ sig := cell c (.inr (.inl ch))
abbrev inCell (c : Dev nD) : GSem nD τ sig := cell c (.inr (.inr 0))
abbrev outCell (c : Dev nD) : GSem nD τ sig := cell c (.inr (.inr 1))

/-- The credit of a chunk, and of the staging buffer. -/
def N1 : ℕ := (oC 0).view.dmaCredit
def N2 : ℕ := stage.view.dmaCredit

theorem N1_pos : 0 < N1 := View.dmaCredit_pos _ (by decide)
theorem N2_pos : 0 < N2 := View.dmaCredit_pos _ (by decide)

/-- What a semaphore with a role counts to. -/
def amt : Role → ℕ
  | .inl _ => N1
  | .inr (.inl _) => N1
  | .inr (.inr _) => N2

theorem amt_pos (r : Role) : 0 < amt r := by
  rcases r with r | r | r
  · exact N1_pos
  · exact N1_pos
  · exact N2_pos

/-! ## Pieces of memory -/

/-- Chunk `k` of the result of device `c`. -/
def oPts (c : Dev nD) (k : Fin 64) (q : PosShare TreeShare) (f : S8192x1024.Idx → Elt F .f32) : sProp 𝕄 :=
  (oC k).view.loc (c : Thread nD τ) ↦[(oC k).view.set]{q} f
/-- The own half of the result. -/
def keepPts (c : Dev nD) (f : S8192x1024.Idx → Elt F .f32) : sProp 𝕄 :=
  (oKeep c).view.loc (c : Thread nD τ) ↦[(oKeep c).view.set]{fullShare} f
/-- Chunk `r` of `x` that goes across `y`. -/
def xPts (c : Dev nD) (r : Fin 8) : sProp 𝕄 :=
  (xSend c r).view.loc (c : Thread nD τ) ↦[(xSend c r).view.set]{fullShare} xC m c
/-- The own columns of `x`. -/
def xKeepPts (c : Dev nD) : sProp 𝕄 :=
  (xKeep c).view.loc (c : Thread nD τ) ↦[(xKeep c).view.set]{fullShare} xC m c
/-- The staging buffer. -/
def stPts (c : Dev nD) (f : S4096x1024.Idx → Elt F .f32) : sProp 𝕄 :=
  (stage : Memref sig .tc .vmem S4096x1024 .f32).view.loc (c : Thread nD τ) ↦[(stage : Memref sig .tc .vmem S4096x1024 .f32).view.set]{fullShare} f

/-- Device `c`'s chunk for transfer `ch` to land in, with any contents. -/
def room (c : Dev nD) (ch : Ch) : sProp 𝕄 := iprop(∃ f, oPts c (fill c ch) fullShare f)
/-- The same chunk with what landed in it. -/
def landed (c : Dev nD) (ch : Ch) : sProp 𝕄 := oPts c (fill c ch) fullShare (G m c)

/-- What device `c` lends to its own transfer `ch`: the chunk that is read. A chunk that goes to both neighbours is lent by halves. -/
def lent (c : Dev nD) : Ch → sProp 𝕄
  | .y r => xPts m c r
  | .xa r => oPts c (fill c (.y r)) fullShare.left (G m c)
  | .za r => oPts c (fill c (.y r)) fullShare.right (G m c)
  | .xb r => landed m c (.za (r.castLE (by decide)))
  | .zb r => landed m c (.xa (r.natAdd 4))

/-- The chunks of device `c` that the peer across axis `a` fills. -/
def rooms (c : Dev nD) : Fin 3 → sProp 𝕄
  | 0 => bigSep Finset.univ fun r : Fin 8 => room c (.y r)
  | 1 => iprop((bigSep Finset.univ fun r : Fin 8 => room c (.xa r)) ∗ bigSep Finset.univ fun r : Fin 4 => room c (.xb r))
  | 2 => iprop((bigSep Finset.univ fun r : Fin 8 => room c (.za r)) ∗ bigSep Finset.univ fun r : Fin 4 => room c (.zb r))

/-- A piece of memory can be handed over. -/
theorem pts_storable {sp : Space} {s : Shape} {e : EltTy} (M : Memref sig .tc sp s e) (c : Dev nD) (q : PosShare TreeShare)
    (f : Buf (Elt F) (M.view.loc (c : Thread nD τ))) :
    BI.Storable (upEmb : UEmb _ 𝕄) (M.view.loc (c : Thread nD τ) ↦[M.view.set]{q} f : sProp 𝕄) := inferInstance

instance oPts_storable (c : Dev nD) (k q) (f) : BI.Storable (upEmb : UEmb _ 𝕄) (oPts (F := F) c k q f) := pts_storable (oC k) c q f
instance keepPts_storable (c : Dev nD) (f) : BI.Storable (upEmb : UEmb _ 𝕄) (keepPts (F := F) c f) := pts_storable (oKeep c) c _ f
instance xPts_storable (c : Dev nD) (r) : BI.Storable (upEmb : UEmb _ 𝕄) (xPts (F := F) m c r) := pts_storable (xSend c r) c _ _
instance xKeepPts_storable (c : Dev nD) : BI.Storable (upEmb : UEmb _ 𝕄) (xKeepPts (F := F) m c) := pts_storable (xKeep c) c _ _
instance stPts_storable (c : Dev nD) (f) : BI.Storable (upEmb : UEmb _ 𝕄) (stPts (F := F) c f) := by unfold stPts; infer_instance
instance room_storable (c : Dev nD) (ch) : BI.Storable (upEmb : UEmb _ 𝕄) (room (F := F) c ch) := by unfold room; infer_instance
instance landed_storable (c : Dev nD) (ch) : BI.Storable (upEmb : UEmb _ 𝕄) (landed (F := F) m c ch) := by unfold landed; infer_instance
instance lent_storable (c : Dev nD) (ch) : BI.Storable (upEmb : UEmb _ 𝕄) (lent (F := F) m c ch) := by
  cases ch <;> unfold lent <;> infer_instance
instance rooms_storable (c : Dev nD) (a : Fin 3) : BI.Storable (upEmb : UEmb _ 𝕄) (rooms (F := F) c a) := by
  match a with
  | 0 => unfold rooms; infer_instance
  | 1 => unfold rooms; infer_instance
  | 2 => unfold rooms; infer_instance

/-! ## The schedule -/

/-- What a DMA semaphore hands over: to the source its chunk back, to the target the chunk filled; to the copy in the own
    columns back and the staging buffer filled; to the copy out the staging buffer back and the own half filled. -/
def pay (c : Dev nD) : Role → sProp 𝕄
  | .inl ch => lent m c ch
  | .inr (.inl ch) => landed m c ch
  | .inr (.inr 0) => iprop(stPts c (stC m c) ∗ xKeepPts m c)
  | .inr (.inr 1) => iprop(keepPts c (G m c) ∗ stPts c (stC m c))

instance pay_storable (c : Dev nD) (r : Role) : BI.Storable (upEmb : UEmb _ 𝕄) (pay (F := F) m c r) := by
  match r with
  | .inl ch => exact lent_storable m c ch
  | .inr (.inl ch) => exact landed_storable m c ch
  | .inr (.inr 0) => unfold pay; infer_instance
  | .inr (.inr 1) => unfold pay; infer_instance

/-- One round, round 0. The barrier takes one unit from each of the three peers, and each hands in the chunks that the
    barrier's owner will fill; every other semaphore takes one transfer. -/
def sched : Rounds.Schedule (GSem nD τ sig) (Fin 3) 𝕄 where
  duties g r := if r = 0 ∧ g.1.2 = .tc then (match g.2 with | .reg s => if s = barrier0 then Finset.univ else ∅ | .dma _ => {0}) else ∅
  unitless _ := False
  amount g _ _ := match g.2 with | .reg _ => 1 | .dma q => amt (roleOf q)
  payload g _ a := match g.2 with | .reg _ => rooms (pr a g.1.1) a | .dma q => pay m g.1.1 (roleOf q)
  amount_pos g _ _ _ := by
    rcases g with ⟨t, s | q⟩
    · exact Nat.one_pos
    · exact amt_pos _

instance sched_payload_storable (g : GSem nD τ sig) (r : ℕ) (a : Fin 3) : BI.Storable (upEmb : UEmb _ 𝕄) ((sched (F := F) m).payload g r a) := by
  rcases g with ⟨t, s | q⟩
  · exact rooms_storable _ _
  · exact pay_storable m _ _

section Sched
variable (c : Dev nD)

theorem duties_bar : (sched (F := F) m).duties (barCell c) 0 = Finset.univ := by
  show (if (0 : ℕ) = 0 ∧ (c : Thread nD τ).2 = .tc then (if barrier0 = barrier0 then (Finset.univ : Finset (Fin 3)) else ∅) else ∅) = _
  rw [if_pos ⟨rfl, rfl⟩, if_pos rfl]
theorem duties_cell (r : Role) : (sched (F := F) m).duties (cell c r) 0 = {0} := by
  show (if (0 : ℕ) = 0 ∧ (c : Thread nD τ).2 = .tc then ({0} : Finset (Fin 3)) else ∅) = _
  rw [if_pos ⟨rfl, rfl⟩]
theorem duties_later (g : GSem nD τ sig) : ∀ r, 1 ≤ r → (sched (F := F) m).duties g r = ∅ := fun r hr => if_neg fun h => by omega

theorem amount_bar (a : Fin 3) : (sched (F := F) m).amount (barCell c) 0 a = 1 := rfl
theorem amount_cell (r : Role) (a : Fin 3) : (sched (F := F) m).amount (cell c r) 0 a = amt r := congrArg amt (roleOf_semOf r)

theorem expect_bar : (sched (F := F) m).expect (barCell c) 0 = 3 := by
  unfold Schedule.expect Schedule.amountOf
  rw [duties_bar, Finset.sum_congr rfl fun a _ => amount_bar m c a, Finset.sum_const, Finset.card_univ, Fintype.card_fin, smul_eq_mul]
theorem expect_cell (r : Role) : (sched (F := F) m).expect (cell c r) 0 = amt r := by
  unfold Schedule.expect Schedule.amountOf; rw [duties_cell, Finset.sum_singleton, amount_cell]

theorem payload_bar (a : Fin 3) : (sched (F := F) m).payload (barCell c) 0 a = rooms (pr a c) a := rfl
theorem payload_cell (r : Role) (a : Fin 3) : (sched (F := F) m).payload (cell c r) 0 a = pay m c r := congrArg (pay m c) (roleOf_semOf r)

/-- All the barrier hands over: the chunks of the three peers. -/
theorem rest_bar : bigSep ((sched (F := F) m).duties (barCell c) 0 \ ∅) (fun a => (sched (F := F) m).payload (barCell c) 0 a)
    = iprop(rooms (pr 0 c) 0 ∗ rooms (pr 1 c) 1 ∗ rooms (pr 2 c) 2) := by
  rw [Finset.sdiff_empty, duties_bar, bigSep_univ_eq_bigSepL [0, 1, 2] (by decide) (by decide)]
  rfl
theorem rest_cell (r : Role) : bigSep ((sched (F := F) m).duties (cell c r) 0 \ ∅) (fun a => (sched (F := F) m).payload (cell c r) 0 a) = pay m c r := by
  rw [Finset.sdiff_empty, duties_cell, bigSep_singleton, payload_cell]

end Sched

/-! ## Levels -/

/-- The level of a target semaphore: higher for later hops. -/
def hop : Ch → ℕ
  | .y _ => 2 | .xa _ => 3 | .za _ => 3 | .xb _ => 4 | .zb _ => 4

/-- The level of a semaphore's role. -/
def lvR : Role → ℕ
  | .inl _ => 0
  | .inr (.inl ch) => hop ch
  | .inr (.inr _) => 0

def L (g : GSem nD τ sig) : Finset Unit := if g.1.2 = .tc then {()} else ∅
/-- The barrier is at 1. -/
def lv (g : GSem nD τ sig) (_ : Unit) : ℕ := match g.2 with | .reg _ => 1 | .dma q => lvR (roleOf q)

theorem L_of_ne (g : GSem nD τ sig) (h : g.1.2 ≠ .tc) : L g = ∅ := if_neg h
theorem L_tc (c : Dev nD) (s : SemLoc sig) : L ((c : Thread nD τ), s) = {()} := if_pos rfl
theorem lv_cell (c : Dev nD) (r : Role) : lv (cell c r) () = lvR r := congrArg lvR (roleOf_semOf r)

/-- Everything in `O` is owed to cells above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)

theorem above_add {n : ℕ} {O O' : CellTallies nD τ sig Unit} : Above n (O + O') ↔ Above n O ∧ Above n O' := by
  constructor
  · intro h
    refine ⟨fun g u hg => h g u ?_, fun g u hg => h g u ?_⟩ <;> rw [Pi.add_apply, Finsupp.add_apply] <;> omega
  · rintro ⟨h, h'⟩ g u hg
    rw [Pi.add_apply, Finsupp.add_apply] at hg
    by_cases h0 : 0 < O g u
    · exact h g u h0
    · exact h' g u (by omega)

theorem above_mono {n n' : ℕ} (hn : n' ≤ n) {O : CellTallies nD τ sig Unit} (h : Above n O) : Above n' O :=
  fun g u hg => ⟨(h g u hg).1, lt_of_le_of_lt hn (h g u hg).2⟩

theorem above_tally (n : ℕ) (c : Dev nD) (s : SemLoc sig) (k : ℕ) (h : n < lv ((c : Thread nD τ), s) ()) : Above n (tallyAt ((c : Thread nD τ), s) () k) := by
  intro g u hg
  rw [tallyAt_apply] at hg
  by_cases hh : g = ((c : Thread nD τ), s) ∧ u = ()
  · rw [hh.1]; exact ⟨rfl, h⟩
  · rw [if_neg hh] at hg; exact absurd hg (Nat.lt_irrefl 0)

theorem above_sum {ι : Type} (n : ℕ) (l : List ι) (T : ι → CellTallies nD τ sig Unit) (h : ∀ i, Above n (T i)) : Above n (l.map T).sum := by
  induction l with
  | nil => exact above_zero n
  | cons i l ih => rw [List.map_cons, List.sum_cons]; exact above_add.mpr ⟨h i, ih⟩

/-- A device may wait on a cell at or below a level when all it owes is above it. -/
theorem mayWait_of (c : Dev nD) (s : SemLoc sig) {n : ℕ} {O : CellTallies nD τ sig Unit} (hs : lv ((c : Thread nD τ), s) () ≤ n) (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-- What device `c` owes for transfer `ch`: the chunk's credit at the target. -/
def T (c : Dev nD) (ch : Ch) : CellTallies nD τ sig Unit := tallyAt (rcvCell (tgt ch c) ch) () N1

theorem above_T {n : ℕ} (c : Dev nD) (ch : Ch) (h : n < hop ch) : Above n (T c ch) := by
  unfold T
  exact above_tally n (tgt ch c) _ N1 (by rw [lv_cell]; exact h)

/-- What a device owes for the second round, for the first round, for the transfers across `y`, and at launch. -/
def owed3 (c : Dev nD) : CellTallies nD τ sig Unit := (all4.map fun r => T c (.zb r)).sum
def owed2 (c : Dev nD) : CellTallies nD τ sig Unit := owed3 c + (all4.map fun r => T c (.xb r)).sum
def owed1 (c : Dev nD) : CellTallies nD τ sig Unit := owed2 c + (all8.map fun r => T c (.za r) + T c (.xa r)).sum
def owed0 (c : Dev nD) : CellTallies nD τ sig Unit := owed1 c + (all8.map fun r => T c (.y r)).sum
def owedBar (c : Dev nD) (a : Fin 3) : CellTallies nD τ sig Unit := tallyAt (barCell (pr a c)) () 1
def O₀ (c : Dev nD) : CellTallies nD τ sig Unit := owed0 c + owedBar c 2 + owedBar c 1 + owedBar c 0

theorem above_owed3 (c : Dev nD) : Above 3 (owed3 c) := above_sum 3 _ _ fun r => above_T c _ (by show 3 < 4; decide)
theorem above_owed2 (c : Dev nD) : Above 3 (owed2 c) :=
  above_add.mpr ⟨above_owed3 c, above_sum 3 _ _ fun r => above_T c _ (by show 3 < 4; decide)⟩
theorem above_owed1 (c : Dev nD) : Above 2 (owed1 c) :=
  above_add.mpr ⟨above_mono (by decide) (above_owed2 c), above_sum 2 _ _ fun r =>
    above_add.mpr ⟨above_T c _ (by show 2 < 3; decide), above_T c _ (by show 2 < 3; decide)⟩⟩
theorem above_owed0 (c : Dev nD) : Above 1 (owed0 c) :=
  above_add.mpr ⟨above_mono (by decide) (above_owed1 c), above_sum 1 _ _ fun r => above_T c _ (by show 1 < 2; decide)⟩
theorem above_O₀ (c : Dev nD) : Above 0 (O₀ c) := by
  have hb : ∀ a, Above 0 (owedBar c a) := fun a => above_tally 0 _ _ 1 (by show 0 < 1; decide)
  exact above_add.mpr ⟨above_add.mpr ⟨above_add.mpr ⟨above_mono (by decide) (above_owed0 c), hb 2⟩, hb 1⟩, hb 0⟩

end Cert.MeshGather

end
-- ==== Proof.Steps.lean ====
/-
One rule for each kind of operation.

Each rule takes what the device holds before the operation and what it holds after, at any transfer and any
device; and a rule for a loop takes the one for its step.
-/
module

public import proofs.«01_k».proof.Proof.Schedule

@[expose] public section

set_option maxRecDepth 16384

noncomputable section

namespace Cert.MeshGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device knows -/

/-- The cells, by device and by barrier or role. -/
abbrev CI : Type := Dev nD × (Unit ⊕ Role)
def csem : Unit ⊕ Role → SemLoc sig
  | .inl _ => .reg barrier0
  | .inr r => .dma (semOf r)
abbrev kcell (ci : CI) : GSem nD τ sig := ((ci.1 : Thread nD τ), csem ci.2)

variable (K : CI → ℕ)

/-- The invariant of every cell, under the names `K`, and that round 0 of it is open. -/
def records : sProp 𝕄 := bigSep Finset.univ fun ci : CI => iprop(cellInv ER (sched m) (K ci) (kcell ci) ∗ reached ER (kcell ci) 0)

instance records_persistent : BI.Persistent (records (F := F) m K) := by unfold records; infer_instance

/-- The invariants and the levels. -/
def know : sProp 𝕄 := iprop(records m K ∗ levAts L lv)

instance know_persistent : BI.Persistent (know (F := F) m K) := by unfold know; infer_instance

theorem know_bar (c : Dev nD) : know (F := F) m K ⊢ iprop(cellInv ER (sched m) (K (c, .inl ())) (barCell c) ∗ reached ER (barCell c) 0) := by
  unfold know records
  iintro ⟨H, -⟩
  iapply (bigSep_elim (Finset.mem_univ ((c, .inl ()) : CI)) : _ ⊢ (iprop(cellInv ER (sched m) (K (c, .inl ())) (kcell (c, .inl ())) ∗ reached ER (kcell (c, .inl ())) 0) : sProp 𝕄)) $$ H

theorem know_cell (c : Dev nD) (r : Role) : know (F := F) m K ⊢ iprop(cellInv ER (sched m) (K (c, .inr r)) (cell c r) ∗ reached ER (cell c r) 0) := by
  unfold know records
  iintro ⟨H, -⟩
  iapply (bigSep_elim (Finset.mem_univ ((c, .inr r) : CI)) : _ ⊢ (iprop(cellInv ER (sched m) (K (c, .inr r)) (kcell (c, .inr r)) ∗ reached ER (kcell (c, .inr r)) 0) : sProp 𝕄)) $$ H

theorem know_lev : know (F := F) m K ⊢ levAts L lv := by
  unfold know
  iintro ⟨-, H⟩
  iexact H

/-- What device `c` owes, whatever it has waited on. -/
def owesW (c : Dev nD) (O : CellTallies nD τ sig Unit) : sProp 𝕄 := iprop(∃ W, owes (c : Thread nD τ) O W)

/-- Device `c` runs `k` to `Q`. -/
abbrev runs (c : Dev nD) (k : Code F PUnit) (Q : PUnit → sProp 𝕄) : sProp 𝕄 :=
  wp frame (wpE (defs₀ (F := F)) 𝒱₀ (c : Thread nD τ) none) Set.univ k Q

/-! ## The operations -/

theorem mem_duty (c : Dev nD) (r : Role) : (0 : Fin 3) ∈ (sched (F := F) m).duties (cell c r) 0 := by
  rw [duties_cell]; exact Finset.mem_singleton_self _

/-- A signal to the barrier of the peer across axis `a`, handing it the chunks it will fill. -/
theorem wp_barrier_signal {Q : PUnit → sProp 𝕄} (c n : Dev nD) (a : Fin 3) (hn : n = pr a c) (O : CellTallies nD τ sig Unit) (k : PUnit → Code F PUnit) :
    iprop(know m K ∗ owesW c (O + owedBar c a) ∗ dutyTok ER (barCell (pr a c)) 0 a ∗ rooms c a ∗ (owesW c O -∗ runs c (k ⟨⟩) Q))
      ⊢ runs c (.op (signal n) k) Q := by
  subst hn
  unfold owesW
  iintro ⟨#Hk, ⟨%W, HO⟩, Htok, Hrooms, Hcont⟩
  ihave #Hi := (know_bar m K (pr a c)) $$ Hk
  icases Hi with ⟨#Hinv, #Hr⟩
  iapply (Rounds.wp_signal 𝒱₀ ER (sched m) (c : Thread nD τ) none (dst := ((pr a c : Dev nD) : Thread nD τ)) (κ := K (pr a c, .inl ()))
      (r := 0) (d := a) (k' := 1) (by rw [duties_bar]; exact Finset.mem_univ _) (amount_bar m (pr a c) a) () O rfl) $$ [HO Htok Hrooms]
  · isplitr; · iexact Hinv
    isplitl [HO]; · iexact HO
    isplitl [Htok]; · iexact Htok
    isplitl [Hrooms]
    · rw [payload_bar, pr_pr]; iexact Hrooms
    iexact Hr
  iintro HO
  iapply Hcont
  iexists W; iexact HO

/-- The wait for the three peers: it hands over the chunks to fill at each of them, and the barrier is at zero again. -/
theorem wp_barrier_wait {Q : PUnit → sProp 𝕄} (c : Dev nD) (O : CellTallies nD τ sig Unit) (hO : Above 1 O) (k : PUnit → Code F PUnit) :
    iprop(know m K ∗ owesW c O ∗ cred (tallyAt (barCell c) () 3) ∗ atPos ER (barCell c) 0 ∅ 0
        ∗ ((owesW c O ∗ semVal (barCell c) 0 ∗ rooms (pr 0 c) 0 ∗ rooms (pr 1 c) 1 ∗ rooms (pr 2 c) 2) -∗ runs c (k ⟨⟩) Q))
      ⊢ runs c (.op (TpuEff.semWait barrier0 ((3 : ℕ) : ℤ)) k) Q := by
  unfold owesW
  iintro ⟨#Hk, ⟨%W, HO⟩, Hc, Hat, Hcont⟩
  ihave #Hi := (know_bar m K c) $$ Hk
  icases Hi with ⟨#Hinv, #Hr⟩
  iapply (Rounds.wp_wait_rest_token 𝒱₀ ER (sched m) (c : Thread nD τ) none (κ := K (c, .inl ()))
      (wpE_semWait_eq 𝒱₀ (c : Thread nD τ) none Set.univ) (Set.mem_univ _) () (O := O) (W := W) (R := 0) (m := 0) (T := ∅)
      (by rw [expect_bar])) $$ [Hc HO Hat]
  · isplitr; · iexact Hinv
    isplitl [Hc]; · iexact Hc
    isplitl [HO]; · iexact HO
    isplitr
    · iapply (mayWait_of c (.reg barrier0) (n := 1) (by show 1 ≤ 1; decide) hO)
      iapply (know_lev m K); iexact Hk
    iexact Hat
  iintro ⟨HO, Hat, -, Hpay⟩
  ihave Hp := (Entails.of_eq (rest_bar m c)) $$ Hpay
  imod (Rounds.cell_close ER (sched m) (Set.mem_univ (K (c, .inl ()))) (fun h => h) (R := 0 + 1) (duties_later m (barCell c))) $$ [Hat] with Hz
  · isplitr; · iexact Hinv
    iexact Hat
  iapply Hcont
  isplitl [HO]; · iexists _; iexact HO
  isplitl [Hz]; · iexact Hz
  iexact Hp

/-- A wait on a DMA semaphore: it hands over what the schedule says, and the semaphore is at zero again. -/
theorem wp_wait {Q : PUnit → sProp 𝕄} (c : Dev nD) (r : Role) {sp sp' : Space} {s s' : Shape} {e e' : EltTy} (q : DmaSem sig) (hq : q = semOf r)
    (src : Memref sig .tc sp' s' e') (dst : Memref sig .tc sp s e) (hs : src.view.WordExact) (hd : dst.view.WordExact)
    (hN : dst.view.dmaCredit = amt r) (O : CellTallies nD τ sig Unit) (hO : Above (lvR r) O) (k : PUnit → Code F PUnit) :
    iprop(know m K ∗ owesW c O ∗ cred (tallyAt (cell c r) () (amt r)) ∗ atPos ER (cell c r) 0 ∅ 0
        ∗ ((owesW c O ∗ semVal (cell c r) 0 ∗ pay m c r) -∗ runs c (k ⟨⟩) Q))
      ⊢ runs c (.op (TpuEff.waitDma2 q src dst hs hd) k) Q := by
  subst hq
  unfold owesW
  iintro ⟨#Hk, ⟨%W, HO⟩, Hc, Hat, Hcont⟩
  ihave #Hi := (know_cell m K c r) $$ Hk
  icases Hi with ⟨#Hinv, #Hr⟩
  iapply (Rounds.wp_wait_rest_token 𝒱₀ ER (sched m) (c : Thread nD τ) none (κ := K (c, .inr r))
      (wpE_waitDma2_eq 𝒱₀ (c : Thread nD τ) none Set.univ) (Set.mem_univ _) () (O := O) (W := W) (R := 0) (m := 0) (T := ∅)
      (by rw [expect_cell, Nat.zero_add, hN])) $$ [Hc HO Hat]
  · isplitr; · iexact Hinv
    isplitl [Hc]; · rw [hN]; iexact Hc
    isplitl [HO]; · iexact HO
    isplitr
    · iapply (mayWait_of c (.dma (semOf r)) (n := lvR r) (le_of_eq (lv_cell c r)) hO)
      iapply (know_lev m K); iexact Hk
    iexact Hat
  iintro ⟨HO, Hat, -, Hpay⟩
  ihave Hp := (Entails.of_eq (rest_cell m c r)) $$ Hpay
  imod (Rounds.cell_close ER (sched m) (Set.mem_univ (K (c, .inr r))) (fun h => h) (R := 0 + 1) (duties_later m (cell c r))) $$ [Hat] with Hz
  · isplitr; · iexact Hinv
    iexact Hat
  iapply Hcont
  isplitl [HO]; · iexists _; iexact HO
  isplitl [Hz]; · iexact Hz
  iexact Hp

/-- What a device needs for transfer `ch` besides the chunk it reads: the right to credit both ends, and the chunk to fill. -/
def go (c : Dev nD) (ch : Ch) : sProp 𝕄 :=
  iprop(dutyTok ER (sndCell c ch) 0 0 ∗ dutyTok ER (rcvCell (tgt ch c) ch) 0 0 ∗ room (tgt ch c) ch)

/-- What it has of a transfer on its way: the credit to wait for its chunk with. -/
def gone (c : Dev nD) (ch : Ch) : sProp 𝕄 := cred (tallyAt (sndCell c ch) () N1)

theorem amount_oC (k : Fin 64) (q : DmaSem sig) : (oC k).view.amount (.dma q) = N1 := rfl

/-- Transfer `ch` of device `c`, from the chunk `S`, which must hold what the target's chunk is to hold. -/
theorem wp_transfer {Q : PUnit → sProp 𝕄} (c n : Dev nD) (ch : Ch) (hn : n = tgt ch c) (S D : Memref sig .tc .hbm S128x1024 .f32) (hD : D = oC (fill (tgt ch c) ch))
    (sS sR : DmaSem sig) (hsS : sS = ch.sS) (hsR : sR = ch.sR) (hs : S.view.WordExact) (hd : D.view.WordExact) (hr : D.view.ref.isScScratch = false)
    {q : PosShare TreeShare} (fs : Buf (Elt F) (S.view.loc (c : Thread nD τ)))
    (hlent : lent m c ch = (S.view.loc (c : Thread nD τ) ↦[S.view.set]{q} fs : sProp 𝕄))
    (hland : ∀ fd : S8192x1024.Idx → Elt F .f32, ∀ i ∈ (oC (fill (tgt ch c) ch)).view.set,
      (oC (fill (tgt ch c) ch)).view.write (Elt F) fd (S.view.read (Elt F) fs) Finset.univ i = G m (tgt ch c) i)
    (O : CellTallies nD τ sig Unit) (k : PUnit → Code F PUnit) :
    iprop(know m K ∗ owesW c (O + T c ch) ∗ go c ch ∗ lent m c ch ∗ ((owesW c O ∗ gone c ch) -∗ runs c (k ⟨⟩) Q))
      ⊢ runs c (.op (send S D n sS sR hs hd hr) k) Q := by
  subst hn hD hsS hsR
  unfold owesW go gone room
  iintro ⟨#Hk, ⟨%W, HO⟩, ⟨Ht1, Ht2, ⟨%fd, Hroom⟩⟩, Hlent, Hcont⟩
  ihave #Hi1 := (know_cell m K c (.inl ch)) $$ Hk
  icases Hi1 with ⟨#Hinv1, #Hr1⟩
  ihave #Hi2 := (know_cell m K (tgt ch c) (.inr (.inl ch))) $$ Hk
  icases Hi2 with ⟨#Hinv2, #Hr2⟩
  ihave Hsrc := (Entails.of_eq hlent) $$ Hlent
  iapply (Rounds.wp_send_pointsTo 𝒱₀ ER (sched m) (c : Thread nD τ) none (κ₁ := K (c, .inr (.inl ch))) (κ₂ := K (tgt ch c, .inr (.inr (.inl ch))))
    (r₁ := 0) (r₂ := 0) (d₁ := 0) (d₂ := 0) (fd := fd)
    (mem_duty m c (.inl ch)) (mem_duty m (tgt ch c) (.inr (.inl ch)))
    () () N1 (amount_oC _ _) (amount_cell m c (.inl ch) 0) (amount_cell m (tgt ch c) (.inr (.inl ch)) 0) O (O₀ := O + T c ch) rfl (W := W)
    ((Entails.of_eq hlent.symm).trans (Entails.of_eq (payload_cell m c (.inl ch) 0).symm))
    ((Entails.of_eq (pointsTo_congr (hland fd))).trans (Entails.of_eq (payload_cell m (tgt ch c) (.inr (.inl ch)) 0).symm))) $$ [Hsrc Hroom HO Ht1 Ht2]
  · isplitr; · iexact Hinv1
    isplitr; · iexact Hinv2
    isplitl [Hsrc]; · iexact Hsrc
    isplitl [Hroom]; · unfold oPts; iexact Hroom
    isplitl [HO]; · iexact HO
    isplitl [Ht1]; · iexact Ht1
    isplitr; · iexact Hr1
    isplitl [Ht2]; · iexact Ht2
    iexact Hr2
  iintro ⟨Hc, HO⟩
  iapply Hcont
  isplitl [HO]; · iexists W; iexact HO
  iexact Hc

/-- The copy of the own columns into the staging buffer. -/
theorem wp_copy_in {Q : PUnit → sProp 𝕄} (c : Dev nD) (q : DmaSem sig) (hq : q = semOf (.inr (.inr 0))) (hs : (xKeep c).view.WordExact) (hd : (stage : Memref sig .tc .vmem S4096x1024 .f32).view.WordExact) (ht)
    (k : PUnit → Code F PUnit) :
    iprop(know m K ∗ dutyTok ER (inCell c) 0 0 ∗ xKeepPts m c ∗ (∃ f, stPts c f) ∗ (cred (tallyAt (inCell c) () N2) -∗ runs c (k ⟨⟩) Q))
      ⊢ runs c (.op (TpuEff.enqueueDma (xKeep c) (.here stage) (.dma q) hs hd ht) k) Q := by
  subst hq
  iintro ⟨#Hk, Htok, Hx, ⟨%fd, Hst⟩, Hcont⟩
  ihave #Hi := (know_cell m K c (.inr (.inr 0))) $$ Hk
  icases Hi with ⟨#Hinv, #Hr⟩
  iapply (Rounds.wp_copy_pointsTo 𝒱₀ ER (sched m) (c : Thread nD τ) none (src := xKeep c) (dst := stage) (sem := .dma (semOf (.inr (.inr 0)))) (κ := K (c, .inr (.inr (.inr 0)))) (r := 0) (d := 0)
      (q := fullShare) (fs := xC m c) (fd := fd)
      (mem_duty m c (.inr (.inr 0))) () N2 rfl (amount_cell m c (.inr (.inr 0)) 0)
      ((Entails.of_eq (congrArg (fun P : sProp 𝕄 => iprop(P ∗ xKeepPts m c)) (pointsTo_congr (in_at m c fd)))).trans
        (Entails.of_eq (payload_cell m c (.inr (.inr 0)) 0).symm))) $$ [Htok Hx Hst]
  · isplitr; · iexact Hinv
    isplitl [Hx]; · unfold xKeepPts; iexact Hx
    isplitl [Hst]; · unfold stPts; iexact Hst
    isplitl [Htok]; · iexact Htok
    iexact Hr
  iexact Hcont

/-- The copy of the staging buffer into the own half of the result. -/
theorem wp_copy_out {Q : PUnit → sProp 𝕄} (c : Dev nD) (q : DmaSem sig) (hq : q = semOf (.inr (.inr 1))) (hs : (stage : Memref sig .tc .vmem S4096x1024 .f32).view.WordExact) (hd : (oKeep c).view.WordExact) (ht)
    (k : PUnit → Code F PUnit) :
    iprop(know m K ∗ dutyTok ER (outCell c) 0 0 ∗ stPts c (stC m c) ∗ (∃ f, keepPts c f) ∗ (cred (tallyAt (outCell c) () N2) -∗ runs c (k ⟨⟩) Q))
      ⊢ runs c (.op (TpuEff.enqueueDma stage (.here (oKeep c)) (.dma q) hs hd ht) k) Q := by
  subst hq
  iintro ⟨#Hk, Htok, Hst, ⟨%fd, Hout⟩, Hcont⟩
  ihave #Hi := (know_cell m K c (.inr (.inr 1))) $$ Hk
  icases Hi with ⟨#Hinv, #Hr⟩
  iapply (Rounds.wp_copy_pointsTo 𝒱₀ ER (sched m) (c : Thread nD τ) none (src := stage) (dst := oKeep c) (sem := .dma (semOf (.inr (.inr 1)))) (κ := K (c, .inr (.inr (.inr 1)))) (r := 0) (d := 0)
      (q := fullShare) (fs := stC m c) (fd := fd)
      (mem_duty m c (.inr (.inr 1))) () N2 rfl (amount_cell m c (.inr (.inr 1)) 0)
      ((Entails.of_eq (congrArg (fun P : sProp 𝕄 => iprop(P ∗ stPts c (stC m c))) (pointsTo_congr (out_at m c fd)))).trans
        (Entails.of_eq (payload_cell m c (.inr (.inr 1)) 0).symm))) $$ [Htok Hst Hout]
  · isplitr; · iexact Hinv
    isplitl [Hst]; · unfold stPts; iexact Hst
    isplitl [Hout]; · unfold keepPts; iexact Hout
    isplitl [Htok]; · iexact Htok
    iexact Hr
  iexact Hcont

/-! ## Loops -/

theorem sep_insert {n : ℕ} {l : Finset (Fin n)} {i : Fin n} (hi : i ∉ l) (X : Fin n → sProp 𝕄) : bigSep (insert i l) X = iprop(X i ∗ bigSep l X) :=
  bigSep_insert hi

/-- A loop whose step takes `X i` to `Y i` and pays `U i` off what is owed. The bound on what is owed goes to every step. -/
theorem wp_loop {n : ℕ} {Q : PUnit → sProp 𝕄} (c : Dev nD) (e : Fin n → List (Op F)) (X Y : Fin n → sProp 𝕄) (U : Fin n → CellTallies nD τ sig Unit) (lev : ℕ) (P : sProp 𝕄)
    [BI.Persistent P]
    (step : ∀ i O k, Above lev (O + U i) → iprop(P ∗ owesW c (O + U i) ∗ X i ∗ ((owesW c O ∗ Y i) -∗ runs c k Q)) ⊢ runs c (run (e i) k) Q)
    (l : List (Fin n)) (hl : l.Nodup) (O : CellTallies nD τ sig Unit) (hO : Above lev (O + (l.map U).sum)) (k : Code F PUnit) :
    iprop(P ∗ owesW c (O + (l.map U).sum) ∗ bigSep l.toFinset X ∗ ((owesW c O ∗ bigSep l.toFinset Y) -∗ runs c k Q))
      ⊢ runs c (run (l.flatMap e) k) Q := by
  induction l generalizing k with
  | nil =>
    rw [List.map_nil, List.sum_nil, add_zero]
    iintro ⟨#HP, HO, -, Hcont⟩
    iapply Hcont
    isplitl [HO]; · iexact HO
    rw [show bigSep (([] : List (Fin n)).toFinset) Y = (iprop(emp) : sProp 𝕄) from rfl]
    iempintro
  | cons i l ih =>
    have hi : i ∉ l.toFinset := fun h => (List.nodup_cons.mp hl).1 (List.mem_toFinset.mp h)
    rw [List.flatMap_cons, run_append, List.toFinset_cons, sep_insert hi X, sep_insert hi Y, List.map_cons, List.sum_cons,
      show O + (U i + (l.map U).sum) = (O + (l.map U).sum) + U i by rw [add_comm (U i), ← add_assoc]]
    rw [List.map_cons, List.sum_cons, show O + (U i + (l.map U).sum) = (O + (l.map U).sum) + U i by rw [add_comm (U i), ← add_assoc]] at hO
    iintro ⟨#HP, HO, ⟨HX, HXs⟩, Hcont⟩
    iapply (step i (O + (l.map U).sum) (run (l.flatMap e) k) hO)
    isplitr; · iexact HP
    isplitl [HO]; · iexact HO
    isplitl [HX]; · iexact HX
    iintro ⟨HO, HY⟩
    iapply (ih (List.nodup_cons.mp hl).2 (above_add.mp hO).1 k)
    isplitr; · iexact HP
    isplitl [HO]; · iexact HO
    isplitl [HXs]; · iexact HXs
    iintro ⟨HO, HYs⟩
    iapply Hcont
    isplitl [HO]; · iexact HO
    isplitl [HY] <;> iassumption

end Cert.MeshGather

end
-- ==== Proof.Phases.lean ====
/-
The phases of the body, one after the other.

Each phase is a loop over chunks. A lemma states, for one chunk, what the device holds before and after; the loop rule
does the rest.
-/
module

public import proofs.«01_k».proof.Proof.Steps

@[expose] public section

set_option maxRecDepth 16384

noncomputable section

namespace Cert.MeshGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : CI → ℕ)

/-! ## What a device holds of a transfer -/

/-- What a device waits for an arrival with: its place at the target semaphore and the credit. -/
def arr (c : Dev nD) (ch : Ch) : sProp 𝕄 := iprop(cred (tallyAt (rcvCell c ch) () N1) ∗ atPos ER (rcvCell c ch) 0 ∅ 0)
/-- What it waits for its own chunk with: the same at the source semaphore. -/
def home (c : Dev nD) (ch : Ch) : sProp 𝕄 := iprop(gone c ch ∗ atPos ER (sndCell c ch) 0 ∅ 0)
/-- The semaphores at zero. -/
def semS (c : Dev nD) (ch : Ch) : sProp 𝕄 := semVal (sndCell c ch) 0
def semR (c : Dev nD) (ch : Ch) : sProp 𝕄 := semVal (rcvCell c ch) 0

/-! ## One operation -/

/-- The wait for an arrival. -/
theorem step_arr {Q : PUnit → sProp 𝕄} (c : Dev nD) (ch : Ch) (q : DmaSem sig) (hq : q = ch.sR) (src dst : Memref sig .tc .hbm S128x1024 .f32)
    (hs : src.view.WordExact) (hd : dst.view.WordExact) (hN : dst.view.dmaCredit = N1) (O : CellTallies nD τ sig Unit) (hO : Above (hop ch) O) (k : Code F PUnit) :
    iprop(know m K ∗ owesW c O ∗ arr c ch ∗ ((owesW c O ∗ semR c ch ∗ landed m c ch) -∗ runs c k Q))
      ⊢ runs c (.op (waitChunk q src dst hs hd) fun _ => k) Q := by
  unfold arr
  iintro ⟨#Hk, HO, ⟨Hc, Hat⟩, Hcont⟩
  iapply (wp_wait m K c (.inr (.inl ch)) q hq src dst hs hd hN O hO (fun _ => k))
  isplitr; · iexact Hk
  isplitl [HO]; · iexact HO
  isplitl [Hc]; · iexact Hc
  isplitl [Hat]; · iexact Hat
  iexact Hcont

/-- The wait for a chunk that was lent. -/
theorem step_home {Q : PUnit → sProp 𝕄} (c : Dev nD) (ch : Ch) (q : DmaSem sig) (hq : q = ch.sS) (src dst : Memref sig .tc .hbm S128x1024 .f32)
    (hs : src.view.WordExact) (hd : dst.view.WordExact) (hN : dst.view.dmaCredit = N1) (O : CellTallies nD τ sig Unit) (hO : Above 0 O) (k : Code F PUnit) :
    iprop(know m K ∗ owesW c O ∗ home c ch ∗ ((owesW c O ∗ semS c ch ∗ lent m c ch) -∗ runs c k Q))
      ⊢ runs c (.op (waitChunk q src dst hs hd) fun _ => k) Q := by
  unfold home gone
  iintro ⟨#Hk, HO, ⟨Hc, Hat⟩, Hcont⟩
  iapply (wp_wait m K c (.inl ch) q hq src dst hs hd hN O hO (fun _ => k))
  isplitr; · iexact Hk
  isplitl [HO]; · iexact HO
  isplitl [Hc]; · iexact Hc
  isplitl [Hat]; · iexact Hat
  iexact Hcont

/-- A chunk of the result sent on: the target's chunk is the same one, and the target's result agrees there. -/
theorem step_relay {Q : PUnit → sProp 𝕄} (c n : Dev nD) (ch : Ch) (hn : n = tgt ch c) (hdir : ch.dir ≠ 0) (S D : Memref sig .tc .hbm S128x1024 .f32) (j : Fin 64)
    (hj : fill (tgt ch c) ch = j) (hS : S = oC j) (hD : D = oC j)
    (sS sR : DmaSem sig) (hsS : sS = ch.sS) (hsR : sR = ch.sR) (hs : S.view.WordExact) (hd : D.view.WordExact) (hr : D.view.ref.isScScratch = false)
    (q : PosShare TreeShare) (hlent : lent m c ch = oPts c j q (G m c)) (O : CellTallies nD τ sig Unit) (k : Code F PUnit) :
    iprop(know m K ∗ owesW c (O + T c ch) ∗ go c ch ∗ lent m c ch ∗ ((owesW c O ∗ gone c ch) -∗ runs c k Q))
      ⊢ runs c (.op (send S D n sS sR hs hd hr) fun _ => k) Q := by
  subst hj hS
  refine wp_transfer m K c n ch hn (oC (fill (tgt ch c) ch)) D hD sS sR hsS hsR hs hd hr (G m c) hlent (fun fd i hi => ?_) O (fun _ => k)
  refine (relay_at (fill (tgt ch c) ch) fd (G m c) i hi).trans ?_
  have h1 := (mem_oC _ i).mp hi
  have h2 := fill_half (tgt ch c) ch
  have h3 := G_pr m ch.dir hdir (tgt ch c) i (by omega)
  rwa [show pr ch.dir (tgt ch c) = c from pr_pr _ _] at h3

/-! ## One chunk of each phase -/

/-- A chunk of `x` goes across `y`. -/
theorem step_y {Q : PUnit → sProp 𝕄} (c : Dev nD) (r : Fin 8) (O : CellTallies nD τ sig Unit) (k : Code F PUnit) (hO : Above 0 (O + T c (.y r))) :
    iprop(know m K ∗ owesW c (O + T c (.y r)) ∗ (go c (.y r) ∗ lent m c (.y r)) ∗ ((owesW c O ∗ gone c (.y r)) -∗ runs c k Q))
      ⊢ runs c (run (opYSend c r) k) Q := by
  iintro ⟨#Hk, HO, ⟨Hgo, Hl⟩, Hcont⟩
  iapply (wp_transfer m K c _ (.y r) (yTo_eq r c) (xSend c r) (oLand c r) (oLand_eq c r) _ _ rfl rfl (View.wordExact_bits rfl) (View.wordExact_bits rfl) rfl
    (q := fullShare) (xC m c) rfl (y_at m c r) O (fun _ => k))
  isplitr; · iexact Hk
  isplitl [HO]; · iexact HO
  isplitl [Hgo]; · iexact Hgo
  isplitl [Hl]; · iexact Hl
  iexact Hcont

/-- The chunk that arrived is lent by halves. -/
theorem landed_split (c : Dev nD) (r : Fin 8) : (landed m c (.y r) : sProp 𝕄) = iprop(lent m c (.xa r) ∗ lent m c (.za r)) := by
  have h := pointsTo_share (nD := nD) (τ := τ) (sig := sig) (Ix := Unit) (Name := ℕ) (U := UU) (Lvl := ℕ)
    (ℓ := (oC (fill c (.y r))).view.loc (c : Thread nD τ)) (I := (oC (fill c (.y r))).view.set) (f := G m c) (PosShare.mem_left_op_right fullShare)
  exact BI.Entails.antisymm h.1 h.2

/-- A chunk arrives across `y` and goes on to both neighbours. -/
theorem step_spread {Q : PUnit → sProp 𝕄} (c : Dev nD) (r : Fin 8) (O : CellTallies nD τ sig Unit) (k : Code F PUnit)
    (hO : Above 2 (O + (T c (.za r) + T c (.xa r)))) :
    iprop(know m K ∗ owesW c (O + (T c (.za r) + T c (.xa r))) ∗ (arr c (.y r) ∗ go c (.xa r) ∗ go c (.za r))
        ∗ ((owesW c O ∗ semR c (.y r) ∗ gone c (.xa r) ∗ gone c (.za r)) -∗ runs c k Q))
      ⊢ runs c (run (opSpread c r) k) Q := by
  iintro ⟨#Hk, HO, ⟨Ha, Hx, Hz⟩, Hcont⟩
  iapply (step_arr m K c (.y r) _ rfl (xSend c r) (oLand c r) (View.wordExact_bits rfl) (View.wordExact_bits rfl) rfl _ hO _)
  isplitr; · iexact Hk
  isplitl [HO]; · iexact HO
  isplitl [Ha]; · iexact Ha
  rw [← add_assoc, landed_split]
  iintro ⟨HO, Hs, ⟨Hlx, Hlz⟩⟩
  iapply (step_relay m K c _ (.xa r) (xaTo_eq r c) (show (1 : Fin 3) ≠ 0 by decide) (oMe c r) (oMe c r) (fill c (.y r)) (fill_xa c r) (oMe_eq c r) (oMe_eq c r) _ _ rfl rfl
    (View.wordExact_bits rfl) (View.wordExact_bits rfl) rfl fullShare.left rfl (O + T c (.za r)) _)
  isplitr; · iexact Hk
  isplitl [HO]; · iexact HO
  isplitl [Hx]; · iexact Hx
  isplitl [Hlx]; · iexact Hlx
  iintro ⟨HO, Hgx⟩
  iapply (step_relay m K c _ (.za r) (zaTo_eq r c) (show (2 : Fin 3) ≠ 0 by decide) (oMe c r) (oMe c r) (fill c (.y r)) (fill_za c r) (oMe_eq c r) (oMe_eq c r) _ _ rfl rfl
    (View.wordExact_bits rfl) (View.wordExact_bits rfl) rfl fullShare.right rfl O _)
  isplitr; · iexact Hk
  isplitl [HO]; · iexact HO
  isplitl [Hz]; · iexact Hz
  isplitl [Hlz]; · iexact Hlz
  iintro ⟨HO, Hgz⟩
  iapply Hcont
  isplitl [HO]; · iexact HO
  isplitl [Hs]; · iexact Hs
  isplitl [Hgx] <;> iassumption

theorem lent_xb (c : Dev nD) (r : Fin 4) : (lent m c (.xb r) : sProp 𝕄) = landed m c (.za (r.castLE (by decide))) := rfl
theorem lent_zb (c : Dev nD) (r : Fin 4) : (lent m c (.zb r) : sProp 𝕄) = landed m c (.xa (r.natAdd 4)) := rfl

/-- The numbers of the first four chunks and of the last four. -/
abbrev lo (r : Fin 4) : Fin 8 := r.castLE (by decide)
abbrev hi (r : Fin 4) : Fin 8 := r.natAdd 4

theorem at_lo (b : ℕ) (h : b + 4 ≤ 66) (h' : b + 8 ≤ 66) (r : Fin 4) : at4 b h r = at8 b h' (lo r) := rfl
theorem at_hi (b : ℕ) (h : b + 4 + 4 ≤ 66) (h' : b + 8 ≤ 66) (r : Fin 4) : at4 (b + 4) h r = at8 b h' (hi r) :=
  Fin.ext (by show b + 4 + r.val = b + (4 + r.val); omega)

/-- A chunk arrives across `z` and goes on across `x`. -/
theorem step_xrelay {Q : PUnit → sProp 𝕄} (c : Dev nD) (r : Fin 4) (O : CellTallies nD τ sig Unit) (k : Code F PUnit) (hO : Above 3 (O + T c (.xb r))) :
    iprop(know m K ∗ owesW c (O + T c (.xb r)) ∗ (arr c (.za (lo r)) ∗ go c (.xb r)) ∗ ((owesW c O ∗ semR c (.za (lo r)) ∗ gone c (.xb r)) -∗ runs c k Q))
      ⊢ runs c (run (opXRelay c r) k) Q := by
  iintro ⟨#Hk, HO, ⟨Ha, Hx⟩, Hcont⟩
  iapply (step_arr m K c (.za (lo r)) _ (at_lo 40 (by decide) (by decide) r) (oMe c (lo r)) (oMe c (lo r)) (View.wordExact_bits rfl) (View.wordExact_bits rfl) rfl _ hO _)
  isplitr; · iexact Hk
  isplitl [HO]; · iexact HO
  isplitl [Ha]; · iexact Ha
  iintro ⟨HO, Hs, Hl⟩
  iapply (step_relay m K c _ (.xb r) (xbTo_eq r c) (show (1 : Fin 3) ≠ 0 by decide) (oZ c r) (oZ c r) (fill c (.za (lo r))) (fill_xb c r) (oZ_eq c r) (oZ_eq c r) _ _ rfl rfl
    (View.wordExact_bits rfl) (View.wordExact_bits rfl) rfl fullShare rfl O _)
  isplitr; · iexact Hk
  isplitl [HO]; · iexact HO
  isplitl [Hx]; · iexact Hx
  rw [lent_xb]
  isplitl [Hl]; · iexact Hl
  iintro ⟨HO, Hg⟩
  iapply Hcont
  isplitl [HO]; · iexact HO
  isplitl [Hs] <;> iassumption

/-- A chunk arrives across `x` and goes on across `z`. -/
theorem step_zrelay {Q : PUnit → sProp 𝕄} (c : Dev nD) (r : Fin 4) (O : CellTallies nD τ sig Unit) (k : Code F PUnit) (hO : Above 3 (O + T c (.zb r))) :
    iprop(know m K ∗ owesW c (O + T c (.zb r)) ∗ (arr c (.xa (hi r)) ∗ go c (.zb r)) ∗ ((owesW c O ∗ semR c (.xa (hi r)) ∗ gone c (.zb r)) -∗ runs c k Q))
      ⊢ runs c (run (opZRelay c r) k) Q := by
  iintro ⟨#Hk, HO, ⟨Ha, Hx⟩, Hcont⟩
  iapply (step_arr m K c (.xa (hi r)) _ (at_hi 24 (by decide) (by decide) r) (oMe c (hi r)) (oMe c (hi r)) (View.wordExact_bits rfl) (View.wordExact_bits rfl) rfl _ hO _)
  isplitr; · iexact Hk
  isplitl [HO]; · iexact HO
  isplitl [Ha]; · iexact Ha
  iintro ⟨HO, Hs, Hl⟩
  iapply (step_relay m K c _ (.zb r) (zbTo_eq r c) (show (2 : Fin 3) ≠ 0 by decide) (oX c r) (oX c r) (fill c (.xa (hi r))) (fill_zb c r) (oX_eq c r) (oX_eq c r) _ _ rfl rfl
    (View.wordExact_bits rfl) (View.wordExact_bits rfl) rfl fullShare rfl O _)
  isplitr; · iexact Hk
  isplitl [HO]; · iexact HO
  isplitl [Hx]; · iexact Hx
  rw [lent_zb]
  isplitl [Hl]; · iexact Hl
  iintro ⟨HO, Hg⟩
  iapply Hcont
  isplitl [HO]; · iexact HO
  isplitl [Hs] <;> iassumption

/-- The two halves of the opposite quarter arrive. -/
theorem step_last {Q : PUnit → sProp 𝕄} (c : Dev nD) (r : Fin 4) (O : CellTallies nD τ sig Unit) (k : Code F PUnit) (hO : Above 4 O) :
    iprop(know m K ∗ owesW c O ∗ (arr c (.xb r) ∗ arr c (.zb r))
        ∗ ((owesW c O ∗ (semR c (.xb r) ∗ landed m c (.xb r)) ∗ (semR c (.zb r) ∗ landed m c (.zb r))) -∗ runs c k Q))
      ⊢ runs c (run (opLast c r) k) Q := by
  iintro ⟨#Hk, HO, ⟨Ha, Hb⟩, Hcont⟩
  iapply (step_arr m K c (.xb r) _ rfl (oDg c (lo r)) (oDg c (lo r)) (View.wordExact_bits rfl) (View.wordExact_bits rfl) rfl _ hO _)
  isplitr; · iexact Hk
  isplitl [HO]; · iexact HO
  isplitl [Ha]; · iexact Ha
  iintro ⟨HO, Hx⟩
  iapply (step_arr m K c (.zb r) _ rfl (oDg c (hi r)) (oDg c (hi r)) (View.wordExact_bits rfl) (View.wordExact_bits rfl) rfl _ hO _)
  isplitr; · iexact Hk
  isplitl [HO]; · iexact HO
  isplitl [Hb]; · iexact Hb
  iintro ⟨HO, Hz⟩
  iapply Hcont
  isplitl [HO]; · iexact HO
  isplitl [Hx] <;> iassumption

/-! ## The phases -/

theorem all8_univ : all8.toFinset = (Finset.univ : Finset (Fin 8)) := by decide
theorem all4_univ : all4.toFinset = (Finset.univ : Finset (Fin 4)) := by decide

/-- A loop over eight chunks, and over four, that pays for what it sends. -/
theorem phase8 {Q : PUnit → sProp 𝕄} (c : Dev nD) (e : Fin 8 → List (Op F)) (X Y : Fin 8 → sProp 𝕄) (U : Fin 8 → CellTallies nD τ sig Unit) (lev : ℕ)
    (step : ∀ i O k, Above lev (O + U i) → iprop(know m K ∗ owesW c (O + U i) ∗ X i ∗ ((owesW c O ∗ Y i) -∗ runs c k Q)) ⊢ runs c (run (e i) k) Q)
    (O : CellTallies nD τ sig Unit) (hO : Above lev (O + (all8.map U).sum)) (k : Code F PUnit) :
    iprop(know m K ∗ owesW c (O + (all8.map U).sum) ∗ bigSep Finset.univ X ∗ ((owesW c O ∗ bigSep Finset.univ Y) -∗ runs c k Q))
      ⊢ runs c (run (all8.flatMap e) k) Q := by
  have h := wp_loop c e X Y U lev (know m K) step all8 (by decide) O hO k
  rwa [all8_univ] at h
theorem phase4 {Q : PUnit → sProp 𝕄} (c : Dev nD) (e : Fin 4 → List (Op F)) (X Y : Fin 4 → sProp 𝕄) (U : Fin 4 → CellTallies nD τ sig Unit) (lev : ℕ)
    (step : ∀ i O k, Above lev (O + U i) → iprop(know m K ∗ owesW c (O + U i) ∗ X i ∗ ((owesW c O ∗ Y i) -∗ runs c k Q)) ⊢ runs c (run (e i) k) Q)
    (O : CellTallies nD τ sig Unit) (hO : Above lev (O + (all4.map U).sum)) (k : Code F PUnit) :
    iprop(know m K ∗ owesW c (O + (all4.map U).sum) ∗ bigSep Finset.univ X ∗ ((owesW c O ∗ bigSep Finset.univ Y) -∗ runs c k Q))
      ⊢ runs c (run (all4.flatMap e) k) Q := by
  have h := wp_loop c e X Y U lev (know m K) step all4 (by decide) O hO k
  rwa [all4_univ] at h

/-- The same when nothing is owed any more and nothing is sent. -/
theorem idle8 {Q : PUnit → sProp 𝕄} (c : Dev nD) (e : Fin 8 → List (Op F)) (X Y : Fin 8 → sProp 𝕄)
    (step : ∀ i O k, Above 4 O → iprop(know m K ∗ owesW c O ∗ X i ∗ ((owesW c O ∗ Y i) -∗ runs c k Q)) ⊢ runs c (run (e i) k) Q) (k : Code F PUnit) :
    iprop(know m K ∗ owesW c 0 ∗ bigSep Finset.univ X ∗ ((owesW c 0 ∗ bigSep Finset.univ Y) -∗ runs c k Q))
      ⊢ runs c (run (all8.flatMap e) k) Q := by
  have hz : (0 : CellTallies nD τ sig Unit) + (all8.map fun _ => (0 : CellTallies nD τ sig Unit)).sum = 0 := by simp [all8]
  have h := phase8 (Q := Q) m K c e X Y (fun _ => 0) 4 (fun i O k h => by rw [add_zero] at h ⊢; exact step i O k h) 0 (by rw [hz]; exact above_zero 4) k
  rwa [hz] at h
theorem idle4 {Q : PUnit → sProp 𝕄} (c : Dev nD) (e : Fin 4 → List (Op F)) (X Y : Fin 4 → sProp 𝕄)
    (step : ∀ i O k, Above 4 O → iprop(know m K ∗ owesW c O ∗ X i ∗ ((owesW c O ∗ Y i) -∗ runs c k Q)) ⊢ runs c (run (e i) k) Q) (k : Code F PUnit) :
    iprop(know m K ∗ owesW c 0 ∗ bigSep Finset.univ X ∗ ((owesW c 0 ∗ bigSep Finset.univ Y) -∗ runs c k Q))
      ⊢ runs c (run (all4.flatMap e) k) Q := by
  have hz : (0 : CellTallies nD τ sig Unit) + (all4.map fun _ => (0 : CellTallies nD τ sig Unit)).sum = 0 := by simp [all4]
  have h := phase4 (Q := Q) m K c e X Y (fun _ => 0) 4 (fun i O k h => by rw [add_zero] at h ⊢; exact step i O k h) 0 (by rw [hz]; exact above_zero 4) k
  rwa [hz] at h

end Cert.MeshGather

end
-- ==== Proof.Families.lean ====
/-
The phases of the body, family by family.

Each phase is stated with what it uses and what it leaves, gathered by the five families of transfers.
-/
module

public import proofs.«01_k».proof.Proof.Phases

@[expose] public section

set_option maxRecDepth 16384

noncomputable section

namespace Cert.MeshGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : CI → ℕ)

/-! ## Families -/

/-- One piece for every chunk of a family. -/
abbrev fam {n : ℕ} (f : Fin n → Ch) (Φ : Ch → sProp 𝕄) : sProp 𝕄 := bigSep Finset.univ fun r => Φ (f r)

/-- All transfers are the five families. -/
theorem sep_ch (Φ : Ch → sProp 𝕄) : bigSep Finset.univ Φ = iprop(fam .y Φ ∗ fam .xa Φ ∗ fam .za Φ ∗ fam .xb Φ ∗ fam .zb Φ) := by
  rw [bigSep_univ_equiv Ch.equivSum.symm Φ, bigSep_univ_sum, bigSep_univ_sum, bigSep_univ_sum, bigSep_univ_sum]
  rfl

/-- Eight chunks are four and four. -/
theorem sep_eight (Φ : Fin 8 → sProp 𝕄) :
    bigSep Finset.univ Φ = iprop((bigSep Finset.univ fun r : Fin 4 => Φ (lo r)) ∗ bigSep Finset.univ fun r : Fin 4 => Φ (hi r)) := by
  rw [bigSep_univ_equiv (finSumFinEquiv (m := 4) (n := 4)) Φ, bigSep_univ_sum]
  rfl

/-- The two duties of a transfer, the room at its target, and the place at the source semaphore. -/
def toks (c : Dev nD) (ch : Ch) : sProp 𝕄 := iprop(dutyTok ER (sndCell c ch) 0 0 ∗ dutyTok ER (rcvCell (tgt ch c) ch) 0 0)
def roomT (c : Dev nD) (ch : Ch) : sProp 𝕄 := room (tgt ch c) ch
def place (c : Dev nD) (ch : Ch) : sProp 𝕄 := atPos ER (sndCell c ch) 0 ∅ 0

theorem go_eq (c : Dev nD) (ch : Ch) : (go c ch : sProp 𝕄) = iprop(toks c ch ∗ roomT c ch) := by
  unfold go toks roomT
  exact (equiv_iff.mp ⟨sep_assoc', sep_assoc⟩ : iprop(dutyTok ER (sndCell c ch) 0 0 ∗ dutyTok ER (rcvCell (tgt ch c) ch) 0 0 ∗ room (tgt ch c) ch) = _)
theorem home_eq (c : Dev nD) (ch : Ch) : (home c ch : sProp 𝕄) = iprop(gone c ch ∗ place c ch) := rfl

variable (K : CI → ℕ)

/-! ## The phases, family by family -/

theorem run_y {Q : PUnit → sProp 𝕄} (c : Dev nD) (k : Code F PUnit) :
    iprop(know m K ∗ owesW c (owed0 c) ∗ fam .y (toks c) ∗ fam .y (roomT c) ∗ fam .y (lent m c) ∗ ((owesW c (owed1 c) ∗ fam .y (gone c)) -∗ runs c k Q))
      ⊢ runs c (run (all8.flatMap (opYSend c)) k) Q := by
  have h := phase8 (Q := Q) m K c (opYSend c) (fun r => iprop(go c (.y r) ∗ lent m c (.y r))) (fun r => gone c (.y r)) (fun r => T c (.y r)) 0
    (fun r O k hO => step_y m K c r O k hO) (owed1 c) (above_mono (by decide) (above_owed0 c)) k
  simp only [go_eq, bigSep_sep'] at h
  iintro ⟨#Hk, HO, A, B, C, D⟩
  iapply h
  isplitr; · iexact Hk
  isplitl [HO]; · iexact HO
  isplitl [A B C]
  · isplitr [C]
    · isplitl [A] <;> iassumption
    iexact C
  iexact D

theorem run_spread {Q : PUnit → sProp 𝕄} (c : Dev nD) (k : Code F PUnit) :
    iprop(know m K ∗ owesW c (owed1 c) ∗ fam .y (arr c) ∗ (fam .xa (toks c) ∗ fam .xa (roomT c)) ∗ (fam .za (toks c) ∗ fam .za (roomT c))
        ∗ ((owesW c (owed2 c) ∗ fam .y (semR c) ∗ fam .xa (gone c) ∗ fam .za (gone c)) -∗ runs c k Q))
      ⊢ runs c (run (all8.flatMap (opSpread c)) k) Q := by
  have h := phase8 (Q := Q) m K c (opSpread c) (fun r => iprop(arr c (.y r) ∗ go c (.xa r) ∗ go c (.za r)))
    (fun r => iprop(semR c (.y r) ∗ gone c (.xa r) ∗ gone c (.za r))) (fun r => T c (.za r) + T c (.xa r)) 2
    (fun r O k hO => step_spread m K c r O k hO) (owed2 c) (above_owed1 c) k
  simp only [go_eq, bigSep_sep'] at h
  iintro ⟨#Hk, HO, A, B, C, D⟩
  iapply h
  isplitr; · iexact Hk
  isplitl [HO]; · iexact HO
  isplitl [A B C]
  · isplitl [A]; · iexact A
    isplitl [B] <;> iassumption
  iexact D

theorem run_xrelay {Q : PUnit → sProp 𝕄} (c : Dev nD) (k : Code F PUnit) :
    iprop(know m K ∗ owesW c (owed2 c) ∗ fam (fun r => .za (lo r)) (arr c) ∗ (fam .xb (toks c) ∗ fam .xb (roomT c))
        ∗ ((owesW c (owed3 c) ∗ fam (fun r => .za (lo r)) (semR c) ∗ fam .xb (gone c)) -∗ runs c k Q))
      ⊢ runs c (run (all4.flatMap (opXRelay c)) k) Q := by
  have h := phase4 (Q := Q) m K c (opXRelay c) (fun r => iprop(arr c (.za (lo r)) ∗ go c (.xb r)))
    (fun r => iprop(semR c (.za (lo r)) ∗ gone c (.xb r))) (fun r => T c (.xb r)) 3
    (fun r O k hO => step_xrelay m K c r O k hO) (owed3 c) (above_owed2 c) k
  simp only [go_eq, bigSep_sep'] at h
  iintro ⟨#Hk, HO, A, B, D⟩
  iapply h
  isplitr; · iexact Hk
  isplitl [HO]; · iexact HO
  isplitl [A B]
  · isplitl [A] <;> iassumption
  iexact D

theorem run_zrelay {Q : PUnit → sProp 𝕄} (c : Dev nD) (k : Code F PUnit) :
    iprop(know m K ∗ owesW c (owed3 c) ∗ fam (fun r => .xa (hi r)) (arr c) ∗ (fam .zb (toks c) ∗ fam .zb (roomT c))
        ∗ ((owesW c 0 ∗ fam (fun r => .xa (hi r)) (semR c) ∗ fam .zb (gone c)) -∗ runs c k Q))
      ⊢ runs c (run (all4.flatMap (opZRelay c)) k) Q := by
  have h := phase4 (Q := Q) m K c (opZRelay c) (fun r => iprop(arr c (.xa (hi r)) ∗ go c (.zb r)))
    (fun r => iprop(semR c (.xa (hi r)) ∗ gone c (.zb r))) (fun r => T c (.zb r)) 3
    (fun r O k hO => step_zrelay m K c r O k hO) 0 (by rw [zero_add]; exact above_owed3 c) k
  rw [zero_add] at h
  simp only [go_eq, bigSep_sep'] at h
  iintro ⟨#Hk, HO, A, B, D⟩
  iapply h
  isplitr; · iexact Hk
  isplitl [HO]; · iexact HO
  isplitl [A B]
  · isplitl [A] <;> iassumption
  iexact D

theorem run_xrest {Q : PUnit → sProp 𝕄} (c : Dev nD) (k : Code F PUnit) :
    iprop(know m K ∗ owesW c 0 ∗ fam (fun r => .xa (lo r)) (arr c)
        ∗ ((owesW c 0 ∗ fam (fun r => .xa (lo r)) (semR c) ∗ fam (fun r => .xa (lo r)) (landed m c)) -∗ runs c k Q))
      ⊢ runs c (run (all4.flatMap (opXRest c)) k) Q := by
  have h := idle4 (Q := Q) m K c (opXRest c) (fun r => arr c (.xa (lo r))) (fun r => iprop(semR c (.xa (lo r)) ∗ landed m c (.xa (lo r))))
    (fun r O k hO => step_arr m K c (.xa (lo r)) _ (at_lo 24 (by decide) (by decide) r) (oMe c (lo r)) (oMe c (lo r)) (View.wordExact_bits rfl) (View.wordExact_bits rfl) rfl O (above_mono (by show 3 ≤ 4; decide) hO) k) k
  rwa [bigSep_sep'] at h

theorem run_zrest {Q : PUnit → sProp 𝕄} (c : Dev nD) (k : Code F PUnit) :
    iprop(know m K ∗ owesW c 0 ∗ fam (fun r => .za (hi r)) (arr c)
        ∗ ((owesW c 0 ∗ fam (fun r => .za (hi r)) (semR c) ∗ fam (fun r => .za (hi r)) (landed m c)) -∗ runs c k Q))
      ⊢ runs c (run (all4.flatMap (opZRest c)) k) Q := by
  have h := idle4 (Q := Q) m K c (opZRest c) (fun r => arr c (.za (hi r))) (fun r => iprop(semR c (.za (hi r)) ∗ landed m c (.za (hi r))))
    (fun r O k hO => step_arr m K c (.za (hi r)) _ (at_hi 40 (by decide) (by decide) r) (oMe c (hi r)) (oMe c (hi r)) (View.wordExact_bits rfl) (View.wordExact_bits rfl) rfl O (above_mono (by show 3 ≤ 4; decide) hO) k) k
  rwa [bigSep_sep'] at h

theorem run_last {Q : PUnit → sProp 𝕄} (c : Dev nD) (k : Code F PUnit) :
    iprop(know m K ∗ owesW c 0 ∗ (fam .xb (arr c) ∗ fam .zb (arr c))
        ∗ ((owesW c 0 ∗ (fam .xb (semR c) ∗ fam .xb (landed m c)) ∗ (fam .zb (semR c) ∗ fam .zb (landed m c))) -∗ runs c k Q))
      ⊢ runs c (run (all4.flatMap (opLast c)) k) Q := by
  have h := idle4 (Q := Q) m K c (opLast c) (fun r => iprop(arr c (.xb r) ∗ arr c (.zb r)))
    (fun r => iprop((semR c (.xb r) ∗ landed m c (.xb r)) ∗ (semR c (.zb r) ∗ landed m c (.zb r))))
    (fun r O k hO => step_last m K c r O k hO) k
  simpa only [bigSep_sep'] using h

/-- The waits for the chunks that were lent, eight at a time and four at a time. -/
theorem run_home8 {Q : PUnit → sProp 𝕄} (c : Dev nD) (f : Fin 8 → Ch) (e : Fin 8 → List (Op F))
    (step : ∀ i O k, Above 4 O → iprop(know m K ∗ owesW c O ∗ home c (f i) ∗ ((owesW c O ∗ semS c (f i) ∗ lent m c (f i)) -∗ runs c k Q)) ⊢ runs c (run (e i) k) Q)
    (k : Code F PUnit) :
    iprop(know m K ∗ owesW c 0 ∗ (fam f (gone c) ∗ fam f (place c)) ∗ ((owesW c 0 ∗ fam f (semS c) ∗ fam f (lent m c)) -∗ runs c k Q))
      ⊢ runs c (run (all8.flatMap e) k) Q := by
  have h := idle8 (Q := Q) m K c e (fun r => home c (f r)) (fun r => iprop(semS c (f r) ∗ lent m c (f r))) step k
  simpa only [home_eq, bigSep_sep'] using h
theorem run_home4 {Q : PUnit → sProp 𝕄} (c : Dev nD) (f : Fin 4 → Ch) (e : Fin 4 → List (Op F))
    (step : ∀ i O k, Above 4 O → iprop(know m K ∗ owesW c O ∗ home c (f i) ∗ ((owesW c O ∗ semS c (f i) ∗ lent m c (f i)) -∗ runs c k Q)) ⊢ runs c (run (e i) k) Q)
    (k : Code F PUnit) :
    iprop(know m K ∗ owesW c 0 ∗ (fam f (gone c) ∗ fam f (place c)) ∗ ((owesW c 0 ∗ fam f (semS c) ∗ fam f (lent m c)) -∗ runs c k Q))
      ⊢ runs c (run (all4.flatMap e) k) Q := by
  have h := idle4 (Q := Q) m K c e (fun r => home c (f r)) (fun r => iprop(semS c (f r) ∗ lent m c (f r))) step k
  simpa only [home_eq, bigSep_sep'] using h

theorem run_ydone {Q : PUnit → sProp 𝕄} (c : Dev nD) (k : Code F PUnit) :
    iprop(know m K ∗ owesW c 0 ∗ (fam .y (gone c) ∗ fam .y (place c)) ∗ ((owesW c 0 ∗ fam .y (semS c) ∗ fam .y (lent m c)) -∗ runs c k Q))
      ⊢ runs c (run (all8.flatMap (opYDone c)) k) Q :=
  run_home8 m K c .y _ (fun r O k hO => step_home m K c (.y r) _ rfl (oLand c r) (xSend c r) (View.wordExact_bits rfl) (View.wordExact_bits rfl) rfl O (above_mono (by decide) hO) k) k
theorem run_xadone {Q : PUnit → sProp 𝕄} (c : Dev nD) (k : Code F PUnit) :
    iprop(know m K ∗ owesW c 0 ∗ (fam .xa (gone c) ∗ fam .xa (place c)) ∗ ((owesW c 0 ∗ fam .xa (semS c) ∗ fam .xa (lent m c)) -∗ runs c k Q))
      ⊢ runs c (run (all8.flatMap (opXaDone c)) k) Q :=
  run_home8 m K c .xa _ (fun r O k hO => step_home m K c (.xa r) _ rfl (oMe c r) (oMe c r) (View.wordExact_bits rfl) (View.wordExact_bits rfl) rfl O (above_mono (by decide) hO) k) k
theorem run_zadone {Q : PUnit → sProp 𝕄} (c : Dev nD) (k : Code F PUnit) :
    iprop(know m K ∗ owesW c 0 ∗ (fam .za (gone c) ∗ fam .za (place c)) ∗ ((owesW c 0 ∗ fam .za (semS c) ∗ fam .za (lent m c)) -∗ runs c k Q))
      ⊢ runs c (run (all8.flatMap (opZaDone c)) k) Q :=
  run_home8 m K c .za _ (fun r O k hO => step_home m K c (.za r) _ rfl (oMe c r) (oMe c r) (View.wordExact_bits rfl) (View.wordExact_bits rfl) rfl O (above_mono (by decide) hO) k) k
theorem run_xbdone {Q : PUnit → sProp 𝕄} (c : Dev nD) (k : Code F PUnit) :
    iprop(know m K ∗ owesW c 0 ∗ (fam .xb (gone c) ∗ fam .xb (place c)) ∗ ((owesW c 0 ∗ fam .xb (semS c) ∗ fam .xb (lent m c)) -∗ runs c k Q))
      ⊢ runs c (run (all4.flatMap (opXbDone c)) k) Q :=
  run_home4 m K c .xb _ (fun r O k hO => step_home m K c (.xb r) _ rfl (oZ c r) (oZ c r) (View.wordExact_bits rfl) (View.wordExact_bits rfl) rfl O (above_mono (by decide) hO) k) k
theorem run_zbdone {Q : PUnit → sProp 𝕄} (c : Dev nD) (k : Code F PUnit) :
    iprop(know m K ∗ owesW c 0 ∗ (fam .zb (gone c) ∗ fam .zb (place c)) ∗ ((owesW c 0 ∗ fam .zb (semS c) ∗ fam .zb (lent m c)) -∗ runs c k Q))
      ⊢ runs c (run (all4.flatMap (opZbDone c)) k) Q :=
  run_home4 m K c .zb _ (fun r O k hO => step_home m K c (.zb r) _ rfl (oX c r) (oX c r) (View.wordExact_bits rfl) (View.wordExact_bits rfl) rfl O (above_mono (by decide) hO) k) k

/-- The barrier: three signals, each with the room the peer may write in, and the wait for the peers' rooms. -/
theorem run_barrier {Q : PUnit → sProp 𝕄} (c : Dev nD) (k : Code F PUnit) :
    iprop(know m K ∗ owesW c (O₀ c) ∗ cred (tallyAt (barCell c) () 3) ∗ atPos ER (barCell c) 0 ∅ 0
        ∗ (dutyTok ER (barCell (pr 0 c)) 0 0 ∗ dutyTok ER (barCell (pr 1 c)) 0 1 ∗ dutyTok ER (barCell (pr 2 c)) 0 2)
        ∗ (rooms c 0 ∗ rooms c 1 ∗ rooms c 2)
        ∗ ((owesW c (owed0 c) ∗ semVal (barCell c) 0 ∗ fam .y (roomT c) ∗ (fam .xa (roomT c) ∗ fam .xb (roomT c)) ∗ (fam .za (roomT c) ∗ fam .zb (roomT c))) -∗ runs c k Q))
      ⊢ runs c (run (opBarrier c) k) Q := by
  iintro ⟨#Hk, HO, Hc, Hat, ⟨T0, T1, T2⟩, ⟨R0, R1, R2⟩, Hcont⟩
  unfold O₀
  iapply (wp_barrier_signal m K c _ 0 (dev1_eq c) _ _)
  isplitr; · iexact Hk
  isplitl [HO]; · iexact HO
  isplitl [T0]; · iexact T0
  isplitl [R0]; · iexact R0
  iintro HO
  iapply (wp_barrier_signal m K c _ 1 (dev2_eq c) _ _)
  isplitr; · iexact Hk
  isplitl [HO]; · iexact HO
  isplitl [T1]; · iexact T1
  isplitl [R1]; · iexact R1
  iintro HO
  iapply (wp_barrier_signal m K c _ 2 (dev3_eq c) _ _)
  isplitr; · iexact Hk
  isplitl [HO]; · iexact HO
  isplitl [T2]; · iexact T2
  isplitl [R2]; · iexact R2
  iintro HO
  iapply (wp_barrier_wait m K c (owed0 c) (above_owed0 c) _)
  isplitr; · iexact Hk
  isplitl [HO]; · iexact HO
  isplitl [Hc]; · iexact Hc
  isplitl [Hat]; · iexact Hat
  iexact Hcont

/-- The columns the device keeps come in to the staging buffer. -/
theorem run_copy_in {Q : PUnit → sProp 𝕄} (c : Dev nD) (k : Code F PUnit) :
    iprop(know m K ∗ dutyTok ER (inCell c) 0 0 ∗ xKeepPts m c ∗ (∃ f, stPts c f) ∗ (cred (tallyAt (inCell c) () N2) -∗ runs c k Q))
      ⊢ runs c (run (opCopyIn c) k) Q :=
  wp_copy_in m K c _ rfl _ _ _ fun _ => k

theorem pay_in (c : Dev nD) : (pay m c (.inr (.inr 0)) : sProp 𝕄) = iprop(stPts c (stC m c) ∗ xKeepPts m c) := rfl

/-- They are waited for and go out to the device's half of the result. -/
theorem run_copy_out {Q : PUnit → sProp 𝕄} (c : Dev nD) (k : Code F PUnit) :
    iprop(know m K ∗ owesW c (owed2 c) ∗ (cred (tallyAt (inCell c) () N2) ∗ atPos ER (inCell c) 0 ∅ 0) ∗ dutyTok ER (outCell c) 0 0 ∗ (∃ f, keepPts c f)
        ∗ ((owesW c (owed2 c) ∗ semVal (inCell c) 0 ∗ xKeepPts m c ∗ cred (tallyAt (outCell c) () N2)) -∗ runs c k Q))
      ⊢ runs c (run (opCopyOut c) k) Q := by
  iintro ⟨#Hk, HO, ⟨Hc, Hat⟩, Ht, Hkeep, Hcont⟩
  iapply (wp_wait m K c (.inr (.inr 0)) _ rfl (xKeep c) stage _ _ rfl (owed2 c) (above_mono (by show 0 ≤ 3; decide) (above_owed2 c)) _)
  isplitr; · iexact Hk
  isplitl [HO]; · iexact HO
  isplitl [Hc]; · iexact Hc
  isplitl [Hat]; · iexact Hat
  rw [pay_in]
  iintro ⟨HO, Hs, Hst, Hx⟩
  iapply (wp_copy_out m K c _ rfl _ _ _ fun _ => k)
  isplitr; · iexact Hk
  isplitl [Ht]; · iexact Ht
  isplitl [Hst]; · iexact Hst
  isplitl [Hkeep]; · iexact Hkeep
  iintro Hc
  iapply Hcont
  isplitl [HO]; · iexact HO
  isplitl [Hs]; · iexact Hs
  isplitl [Hx] <;> iassumption

/-- The last wait: the device's half of the result is in place. -/
theorem run_out_done {Q : PUnit → sProp 𝕄} (c : Dev nD) (k : Code F PUnit) :
    iprop(know m K ∗ owesW c 0 ∗ cred (tallyAt (outCell c) () N2) ∗ atPos ER (outCell c) 0 ∅ 0
        ∗ ((owesW c 0 ∗ semVal (outCell c) 0 ∗ keepPts c (G m c) ∗ stPts c (stC m c)) -∗ runs c k Q))
      ⊢ runs c (run (opOutDone c) k) Q :=
  wp_wait m K c (.inr (.inr 1)) _ rfl stage (oKeep c) _ _ rfl 0 (above_zero _) fun _ => k

end Cert.MeshGather

end
-- ==== Proof.Body.lean ====
/-
The body of the kernel on one device: the phases run one after the other, from the credits, the tokens and the memory
the launch gives to the result, every semaphore at zero again. Then the memory of `x` and of the result, split into
the pieces that move and joined again.
-/
module

public import proofs.«01_k».proof.Proof.Families

@[expose] public section

set_option maxRecDepth 16384

noncomputable section

namespace Cert.MeshGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : CI → ℕ)

/-! ## What the body starts with and what it leaves -/

/-- The credits, places and tokens a device starts with. -/
def given (c : Dev nD) : sProp 𝕄 := iprop(
  (cred (tallyAt (barCell c) () 3) ∗ atPos ER (barCell c) 0 ∅ 0)
  ∗ (dutyTok ER (barCell (pr 0 c)) 0 0 ∗ dutyTok ER (barCell (pr 1 c)) 0 1 ∗ dutyTok ER (barCell (pr 2 c)) 0 2)
  ∗ bigSep Finset.univ (toks c) ∗ bigSep Finset.univ (arr c) ∗ bigSep Finset.univ (place c)
  ∗ (dutyTok ER (inCell c) 0 0 ∗ dutyTok ER (outCell c) 0 0) ∗ atPos ER (inCell c) 0 ∅ 0 ∗ atPos ER (outCell c) 0 ∅ 0)

/-- The memory it starts with: room for every chunk of the result, what it keeps and what it sends of `x`, and the
staging buffer. -/
def holds (c : Dev nD) : sProp 𝕄 := iprop(
  (∃ f, keepPts c f) ∗ bigSep Finset.univ (room c) ∗ xKeepPts m c ∗ fam .y (lent m c) ∗ (∃ f, stPts c f))

/-- Every semaphore at zero. -/
def quiet (c : Dev nD) : sProp 𝕄 := iprop(
  semVal (barCell c) 0 ∗ bigSep Finset.univ (semS c) ∗ bigSep Finset.univ (semR c) ∗ semVal (inCell c) 0 ∗ semVal (outCell c) 0)

/-- The result in place, and `x` as it was. -/
def result (c : Dev nD) : sProp 𝕄 := iprop(
  keepPts c (G m c) ∗ bigSep Finset.univ (landed m c) ∗ xKeepPts m c ∗ fam .y (lent m c) ∗ stPts c (stC m c))

/-- The rooms of a device are its three peers' rooms. -/
theorem rooms_eq (c : Dev nD) : (bigSep Finset.univ (room c) : sProp 𝕄) ⊢ iprop(rooms c 0 ∗ rooms c 1 ∗ rooms c 2) := by
  rw [sep_ch]
  show iprop(fam .y (room c) ∗ fam .xa (room c) ∗ fam .za (room c) ∗ fam .xb (room c) ∗ fam .zb (room c))
    ⊢ iprop(fam .y (room c) ∗ (fam .xa (room c) ∗ fam .xb (room c)) ∗ (fam .za (room c) ∗ fam .zb (room c)))
  iintro ⟨A, B, C, D, E⟩
  isplitl [A]; · iexact A
  isplitl [B D]
  · isplitl [B] <;> iassumption
  · isplitl [C] <;> iassumption

/-- The two halves of the chunks that came across `y` make them whole again. -/
theorem whole_y (c : Dev nD) : (iprop(fam .xa (lent m c) ∗ fam .za (lent m c)) : sProp 𝕄) ⊢ fam .y (landed m c) := by
  show _ ⊢ bigSep Finset.univ fun r : Fin 8 => landed m c (.y r)
  simp only [landed_split, bigSep_sep']
  exact fun _ h => h

/-- The chunks of a family, the first four and the last four. -/
theorem fam_halves (f : Fin 8 → Ch) (Φ : Ch → sProp 𝕄) : fam f Φ = iprop(fam (fun r => f (lo r)) Φ ∗ fam (fun r => f (hi r)) Φ) :=
  sep_eight fun r => Φ (f r)

/-- The body, from what the launch gives to the result. -/
theorem wp_code {Q : PUnit → sProp 𝕄} (c : Dev nD) :
    iprop(know m K ∗ owesW c (O₀ c) ∗ given c ∗ holds m c ∗ ((owesW c 0 ∗ quiet c ∗ result m c) -∗ runs c (Prog.ret ⟨⟩) Q)) ⊢ runs c (code c) Q := by
  unfold given holds quiet result code
  rw [sep_ch (toks c), sep_ch (arr c), sep_ch (place c), fam_halves .xa (arr c), fam_halves .za (arr c)]
  iintro ⟨#Hk, HO, ⟨⟨Bc, Bat⟩, Bt, ⟨Ty, Txa, Tza, Txb, Tzb⟩, ⟨Ay, ⟨Axl, Axh⟩, ⟨Azl, Azh⟩, Axb, Azb⟩, ⟨Py, Pxa, Pza, Pxb, Pzb⟩, ⟨Tin, Tout⟩, Pin, Pout⟩,
    ⟨Mkeep, Mroom, Mx, My, Mst⟩, Hcont⟩
  ihave Mroom := (rooms_eq c) $$ Mroom
  iapply (run_barrier m K c _)
  isplitr; · iexact Hk
  isplitl [HO]; · iexact HO
  isplitl [Bc]; · iexact Bc
  isplitl [Bat]; · iexact Bat
  isplitl [Bt]; · iexact Bt
  isplitl [Mroom]; · iexact Mroom
  iintro ⟨HO, Sbar, Ry, ⟨Rxa, Rxb⟩, ⟨Rza, Rzb⟩⟩
  iapply (run_y m K c _)
  isplitr; · iexact Hk
  isplitl [HO]; · iexact HO
  isplitl [Ty]; · iexact Ty
  isplitl [Ry]; · iexact Ry
  isplitl [My]; · iexact My
  iintro ⟨HO, Gy⟩
  iapply (run_copy_in m K c _)
  isplitr; · iexact Hk
  isplitl [Tin]; · iexact Tin
  isplitl [Mx]; · iexact Mx
  isplitl [Mst]; · iexact Mst
  iintro Cin
  iapply (run_spread m K c _)
  isplitr; · iexact Hk
  isplitl [HO]; · iexact HO
  isplitl [Ay]; · iexact Ay
  isplitl [Txa Rxa]
  · isplitl [Txa] <;> iassumption
  isplitl [Tza Rza]
  · isplitl [Tza] <;> iassumption
  iintro ⟨HO, Sy, Gxa, Gza⟩
  iapply (run_copy_out m K c _)
  isplitr; · iexact Hk
  isplitl [HO]; · iexact HO
  isplitl [Cin Pin]
  · isplitl [Cin] <;> iassumption
  isplitl [Tout]; · iexact Tout
  isplitl [Mkeep]; · iexact Mkeep
  iintro ⟨HO, Sin, Mx, Cout⟩
  iapply (run_xrelay m K c _)
  isplitr; · iexact Hk
  isplitl [HO]; · iexact HO
  isplitl [Azl]; · iexact Azl
  isplitl [Txb Rxb]
  · isplitl [Txb] <;> iassumption
  iintro ⟨HO, Szl, Gxb⟩
  iapply (run_zrelay m K c _)
  isplitr; · iexact Hk
  isplitl [HO]; · iexact HO
  isplitl [Axh]; · iexact Axh
  isplitl [Tzb Rzb]
  · isplitl [Tzb] <;> iassumption
  iintro ⟨HO, Sxh, Gzb⟩
  iapply (run_xrest m K c _)
  isplitr; · iexact Hk
  isplitl [HO]; · iexact HO
  isplitl [Axl]; · iexact Axl
  iintro ⟨HO, Sxl, Lxl⟩
  iapply (run_zrest m K c _)
  isplitr; · iexact Hk
  isplitl [HO]; · iexact HO
  isplitl [Azh]; · iexact Azh
  iintro ⟨HO, Szh, Lzh⟩
  iapply (run_last m K c _)
  isplitr; · iexact Hk
  isplitl [HO]; · iexact HO
  isplitl [Axb Azb]
  · isplitl [Axb] <;> iassumption
  iintro ⟨HO, ⟨Sxb, Lxb⟩, ⟨Szb, Lzb⟩⟩
  iapply (run_ydone m K c _)
  isplitr; · iexact Hk
  isplitl [HO]; · iexact HO
  isplitl [Gy Py]
  · isplitl [Gy] <;> iassumption
  iintro ⟨HO, Ey, Ly⟩
  iapply (run_xadone m K c _)
  isplitr; · iexact Hk
  isplitl [HO]; · iexact HO
  isplitl [Gxa Pxa]
  · isplitl [Gxa] <;> iassumption
  iintro ⟨HO, Exa, Lxa⟩
  iapply (run_zadone m K c _)
  isplitr; · iexact Hk
  isplitl [HO]; · iexact HO
  isplitl [Gza Pza]
  · isplitl [Gza] <;> iassumption
  iintro ⟨HO, Eza, Lza⟩
  iapply (run_xbdone m K c _)
  isplitr; · iexact Hk
  isplitl [HO]; · iexact HO
  isplitl [Gxb Pxb]
  · isplitl [Gxb] <;> iassumption
  iintro ⟨HO, Exb, Lzl⟩
  iapply (run_zbdone m K c _)
  isplitr; · iexact Hk
  isplitl [HO]; · iexact HO
  isplitl [Gzb Pzb]
  · isplitl [Gzb] <;> iassumption
  iintro ⟨HO, Ezb, Lxh⟩
  iapply (run_out_done m K c _)
  isplitr; · iexact Hk
  isplitl [HO]; · iexact HO
  isplitl [Cout]; · iexact Cout
  isplitl [Pout]; · iexact Pout
  iintro ⟨HO, Sout, Mkeep, Mst⟩
  iapply Hcont
  isplitl [HO]; · iexact HO
  rw [sep_ch (semS c), sep_ch (semR c), sep_ch (landed m c), fam_halves .xa (semR c), fam_halves .za (semR c), fam_halves .xa (landed m c), fam_halves .za (landed m c)]
  isplitl [Sbar Sy Szl Sxh Sxl Szh Sxb Szb Ey Exa Eza Exb Ezb Sin Sout]
  · isplitl [Sbar]; · iexact Sbar
    isplitl [Ey Exa Eza Exb Ezb]
    · isplitl [Ey]; · iexact Ey
      isplitl [Exa]; · iexact Exa
      isplitl [Eza]; · iexact Eza
      isplitl [Exb] <;> iassumption
    isplitl [Sy Szl Sxh Sxl Szh Sxb Szb]
    · isplitl [Sy]; · iexact Sy
      isplitl [Sxl Sxh]
      · isplitl [Sxl] <;> iassumption
      isplitl [Szl Szh]
      · isplitl [Szl] <;> iassumption
      isplitl [Sxb] <;> iassumption
    isplitl [Sin] <;> iassumption
  isplitl [Mkeep]; · iexact Mkeep
  isplitl [Lxa Lza Lxl Lxh Lzl Lzh Lxb Lzb]
  · isplitl [Lxa Lza]
    · iapply (whole_y m c)
      isplitl [Lxa] <;> iassumption
    isplitl [Lxl Lxh]
    · isplitl [Lxl]; · iexact Lxl
      iexact Lxh
    isplitl [Lzl Lzh]
    · isplitl [Lzl]; · iexact Lzl
      iexact Lzh
    isplitl [Lxb] <;> iassumption
  isplitl [Mx]; · iexact Mx
  isplitl [Ly]; · iexact Ly
  iexact Mst

/-! ## The memory, split and joined -/

/-- Disjoint pieces, each held, are the set they make up held. -/
theorem join_fam {ℓ : Loc nD τ sig} {ι : Type} [Fintype ι] (J : ι → Finset (Idx ℓ)) (S : Finset (Idx ℓ)) (f : Buf (Elt F) ℓ)
    (hS : ∀ i, i ∈ S ↔ ∃ t, i ∈ J t) (hd : ∀ t t', t ≠ t' → Disjoint (J t) (J t')) :
    (bigSep Finset.univ fun t => (ℓ ↦[J t]{fullShare} f : sProp 𝕄)) = (ℓ ↦[S]{fullShare} f) := by
  rw [← pointsTo_biUnion Finset.univ J fun a _ b _ h => hd a b h]
  congr 1
  ext i
  rw [hS, Finset.mem_biUnion]
  exact ⟨fun ⟨t, _, h⟩ => ⟨t, h⟩, fun ⟨t, h⟩ => ⟨t, Finset.mem_univ _, h⟩⟩

/-- The same for two. -/
theorem join_two {ℓ : Loc nD τ sig} (I J S : Finset (Idx ℓ)) (f : Buf (Elt F) ℓ) (hS : ∀ i, i ∈ S ↔ i ∈ I ∨ i ∈ J) (hd : Disjoint I J) :
    (iprop((ℓ ↦[I]{fullShare} f) ∗ ℓ ↦[J]{fullShare} f) : sProp 𝕄) = (ℓ ↦[S]{fullShare} f) := by
  have h : I ∪ J = S := by ext i; rw [hS, Finset.mem_union]
  rw [← h]
  have h := pointsTo_union (Ix := Unit) (Name := ℕ) (U := UU) (Lvl := ℕ) (q := fullShare) (f := f) hd
  exact (BI.Entails.antisymm h.1 h.2).symm

/-- Where the result and `x` lie. -/
abbrev outLoc (c : Dev nD) : Loc nD τ sig := (c : Thread nD τ).loc main_v1
abbrev xLoc (c : Dev nD) : Loc nD τ sig := (c : Thread nD τ).loc main_arg0

theorem oPts_eq (c : Dev nD) (k : Fin 64) (f : S8192x1024.Idx → Elt F .f32) : (oPts c k fullShare f : sProp 𝕄) = (outLoc c ↦[oSet k]{fullShare} f) := rfl
theorem keepPts_eq (c : Dev nD) (f : S8192x1024.Idx → Elt F .f32) : (keepPts c f : sProp 𝕄) = (outLoc c ↦[keepSet c]{fullShare} f) := rfl
theorem lent_y_eq (c : Dev nD) (r : Fin 8) : (lent m c (.y r) : sProp 𝕄) = (xLoc c ↦[xSet c r]{fullShare} xC m c) := rfl
theorem xKeepPts_eq (c : Dev nD) : (xKeepPts m c : sProp 𝕄) = (xLoc c ↦[xKeepSet c]{fullShare} xC m c) := rfl

/-- The result's memory is the device's half and the chunks of the other half. -/
theorem out_eq (c : Dev nD) (f : S8192x1024.Idx → Elt F .f32) :
    ((outLoc c ↦{fullShare} f) : sProp 𝕄) = iprop(keepPts c f ∗ bigSep Finset.univ fun ch : Ch => oPts c (fill c ch) fullShare f) := by
  simp only [oPts_eq, keepPts_eq]
  rw [join_fam (ℓ := outLoc c) (fun ch : Ch => oSet (fill c ch)) (farSet c) f (fun i => by unfold farSet; simp) fun t t' h => oC_disjoint fun e => h (fill_inj c e)]
  exact (join_two (ℓ := outLoc c) (keepSet c) (farSet c) Finset.univ f
    (fun i => ⟨fun _ => Finset.mem_union.mp (keep_far_univ c ▸ Finset.mem_univ i), fun _ => Finset.mem_univ _⟩) (keep_far_disjoint c)).symm

/-- The part of `x` that some copy reads, and the part that none does. -/
def readSet (c : Dev nD) : Finset S4096x2048.Idx := xKeepSet c ∪ sentSet c
def spareSet (c : Dev nD) : Finset S4096x2048.Idx := Finset.univ \ readSet c
def spare (c : Dev nD) : sProp 𝕄 := xLoc c ↦[spareSet c]{fullShare} xC m c

/-- `x` is what the device keeps, the chunks it sends, and the rest. -/
theorem x_eq (c : Dev nD) : ((xLoc c ↦{fullShare} xC m c) : sProp 𝕄) = iprop((xKeepPts m c ∗ fam .y (lent m c)) ∗ spare m c) := by
  have hf : (fam .y (lent m c) : sProp 𝕄) = bigSep Finset.univ fun r : Fin 8 => (xLoc c ↦[xSet c r]{fullShare} xC m c) := rfl
  unfold spare
  rw [xKeepPts_eq, hf]
  rw [join_fam (ℓ := xLoc c) (fun r : Fin 8 => xSet c r) (sentSet c) (xC m c) (fun i => by unfold sentSet; simp) fun t t' h => xSend_disjoint c h,
    join_two (ℓ := xLoc c) (xKeepSet c) (sentSet c) (readSet c) (xC m c) (fun i => by unfold readSet; exact Finset.mem_union) (xKeep_sent_disjoint c)]
  exact (join_two (ℓ := xLoc c) (readSet c) (spareSet c) Finset.univ (xC m c)
    (fun i => ⟨fun _ => by unfold spareSet; rw [Finset.mem_sdiff]; exact (Decidable.em (i ∈ readSet c)).imp id fun h => ⟨Finset.mem_univ _, h⟩, fun _ => Finset.mem_univ _⟩)
    (by unfold spareSet; exact Finset.disjoint_sdiff)).symm

end Cert.MeshGather

end
-- ==== Proof.Ghost.lean ====
/-
The launch's resources: the cells and the tokens of their duties, dealt so that each device holds the tokens of what it
pays, and the credits of what each device waits for.
-/
module

public import proofs.«01_k».proof.Proof.Body

@[expose] public section

set_option maxRecDepth 16384

noncomputable section

namespace Cert.MeshGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : CI → ℕ)

/-! ## The cells and their duties, as minted -/

theorem csem_injective : Function.Injective csem := by
  rintro (u | r) (u' | r') h
  · rfl
  · cases h
  · cases h
  · exact congrArg Sum.inr (semOf_bijective.1 (SemLoc.dma.inj h))

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- The duties, by device: one of the barrier for each direction, and one of every other semaphore. -/
abbrev dutyOf (x : Dev nD × (Fin 3 ⊕ Role)) : GSem nD τ sig × ℕ × Fin 3 := match x.2 with
  | .inl a => (barCell x.1, 0, a)
  | .inr r => (cell x.1 r, 0, 0)

theorem dutyOf_injective : Function.Injective dutyOf := by
  rintro ⟨c, a | r⟩ ⟨c', a' | r'⟩ h
  · have h1 : c = c' := congrArg (fun x : GSem nD τ sig × ℕ × Fin 3 => x.1.1.1) h
    have h2 : a = a' := congrArg (fun x : GSem nD τ sig × ℕ × Fin 3 => x.2.2) h
    rw [h1, h2]
  · have h1 : SemLoc.reg barrier0 = SemLoc.dma (semOf r') := congrArg (fun x : GSem nD τ sig × ℕ × Fin 3 => x.1.2) h
    cases h1
  · have h1 : SemLoc.dma (semOf r) = SemLoc.reg barrier0 := congrArg (fun x : GSem nD τ sig × ℕ × Fin 3 => x.1.2) h
    cases h1
  · have h1 : c = c' := congrArg (fun x : GSem nD τ sig × ℕ × Fin 3 => x.1.1.1) h
    have h2 : SemLoc.dma (semOf r) = SemLoc.dma (semOf r') := congrArg (fun x : GSem nD τ sig × ℕ × Fin 3 => x.1.2) h
    rw [h1, semOf_bijective.1 (SemLoc.dma.inj h2)]

def allDuties : Finset (GSem nD τ sig × ℕ × Fin 3) := Finset.univ.map ⟨dutyOf, dutyOf_injective⟩

/-- The launch's element: the pipeline's part and the cells'. -/
def u₀ : UU := (initOf (Pipeline.cells cfgs cellOf_inj) (Pipeline.launchToks cfgs cellOf_inj), initOf allCells allDuties)

/-- The tokens of the duties of a device's own cells. -/
def minted (c : Dev nD) : sProp 𝕄 := iprop((bigSep Finset.univ fun a : Fin 3 => dutyTok ER (barCell c) 0 a) ∗ bigSep Finset.univ fun r : Role => dutyTok ER (cell c r) 0 0)

/-- What the launch deals a device. -/
def dealt (c : Dev nD) : sProp 𝕄 := iprop(
  (bigSep Finset.univ fun k : Unit ⊕ Role => roundState ER (sched m) (kcell (c, k)) 0)
  ∗ (bigSep Finset.univ fun k : Unit ⊕ Role => iprop(atPos ER (kcell (c, k)) 0 ∅ 0 ∗ reached ER (kcell (c, k)) 0)) ∗ minted c)

theorem fund_cells : BI.own (ER (initOf allCells allDuties)) ⊢ (|==> bigSep Finset.univ (dealt m) : sProp 𝕄) := by
  have hX (Φ : GSem nD τ sig → sProp 𝕄) : bigSep allCells Φ = bigSep Finset.univ fun c : Dev nD => bigSep Finset.univ fun k : Unit ⊕ Role => Φ (kcell (c, k)) := by
    unfold allCells; rw [bigSep_map, bigSep_univ_prod]; rfl
  have hT : bigSep allDuties (fun x => (dutyTok ER x.1 x.2.1 x.2.2 : sProp 𝕄)) = bigSep Finset.univ fun c : Dev nD => minted c := by
    unfold allDuties minted; rw [bigSep_map, bigSep_univ_prod]
    exact bigSep_congr fun c _ => by rw [bigSep_univ_sum]; rfl
  iintro HX
  imod (Rounds.fund ER (sched m) allCells allDuties) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt
  simp only [bigSep_sep']
  isplitl [Hst]; · iexact Hst
  isplitl [Hat Hr]
  · isplitl [Hat] <;> iassumption
  iexact Htok

/-! ## The semaphores at launch -/

/-- The kernel's own semaphores, by role. -/
abbrev osem (r : Role) : SemLoc sig := .dma (semOf r)

theorem ownSemFacts : Pipeline.OwnSemFacts cfg0.spec osem :=
  ⟨by decide +kernel, fun r r' h => semOf_bijective.1 (SemLoc.dma.inj h), fun r w => w.elim0⟩

/-- The barrier's semaphore is the one that the kernel does not own. -/
theorem unscopedSems0_eq (c : Dev nD) : (unscopedSems0 c : sProp 𝕄) = semVal (barCell c) 0 := by
  unfold unscopedSems0
  rw [bigSep_eq_bigSepL_of_eq [SemLoc.reg barrier0] (by decide +kernel) (by decide)]
  rfl

theorem ownSems0_eq (c : Dev nD) : (Pipeline.ownSems0 (Ix := Unit) (Name := ℕ) (U := UU) (Lvl := ℕ) (Val := Elt F) (τ := τ) osem c : sProp 𝕄)
    = bigSep Finset.univ fun r : Role => semVal (cell c r) 0 := rfl

/-- A family over a device's cells is the barrier's and one for each role. -/
theorem sep_cells (Φ : Unit ⊕ Role → sProp 𝕄) : bigSep Finset.univ Φ = iprop(Φ (.inl ()) ∗ bigSep Finset.univ fun r : Role => Φ (.inr r)) := by
  rw [bigSep_univ_sum, bigSep_univ_eq_bigSepL [()] (by decide) (by decide) fun u : Unit => Φ (.inl u)]
  rfl

/-- A family over the roles is the sources', the targets', and the two copies'. -/
theorem sep_roles (Φ : Role → sProp 𝕄) : bigSep Finset.univ Φ
    = iprop((bigSep Finset.univ fun ch : Ch => Φ (.inl ch)) ∗ (bigSep Finset.univ fun ch : Ch => Φ (.inr (.inl ch))) ∗ Φ (.inr (.inr 0)) ∗ Φ (.inr (.inr 1))) := by
  rw [bigSep_univ_sum, bigSep_univ_sum, bigSep_univ_eq_bigSepL [0, 1] (by decide) (by decide) fun i : Fin 2 => Φ (.inr (.inr i))]
  rfl

/-- Every cell of a device gets its invariant. -/
theorem alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Unit ⊕ Role => iprop(∃ κ : ℕ, cellInv ER (sched m) κ (kcell (c, k))))
          ∗ (bigSep Finset.univ fun k : Unit ⊕ Role => iprop(atPos ER (kcell (c, k)) 0 ∅ 0 ∗ reached ER (kcell (c, k)) 0)) ∗ minted c) := by
  have hv : (iprop(semVal (barCell c) 0 ∗ bigSep Finset.univ fun r : Role => semVal (cell c r) 0) : sProp 𝕄)
      = bigSep Finset.univ fun k : Unit ⊕ Role => semVal (kcell (c, k)) 0 := (sep_cells fun k => semVal (kcell (c, k)) 0).symm
  have hi : (iprop((bigSep Finset.univ fun k : Unit ⊕ Role => semVal (kcell (c, k)) 0) ∗ bigSep Finset.univ fun k : Unit ⊕ Role => roundState ER (sched m) (kcell (c, k)) 0) : sProp 𝕄)
      ⊢ |={Set.univ}=> bigSep Finset.univ fun k : Unit ⊕ Role => iprop(∃ κ : ℕ, cellInv ER (sched m) κ (kcell (c, k))) := by
    rw [← bigSep_sep']
    exact (bigSep_mono fun k _ => (Rounds.body_intro ER (sched m) (kcell (c, k))).trans inv_alloc).trans (bigSep_fupd _ _)
  unfold dealt
  rw [ownSems0_eq, unscopedSems0_eq]
  iintro ⟨Hos, Hus, Hst, Hat, Htok⟩
  ihave Hv := (Entails.of_eq hv) $$ [Hos Hus]
  · isplitl [Hus] <;> iassumption
  imod (hi) $$ [Hv Hst] with Hinv
  · isplitl [Hv] <;> iassumption
  imodintro
  isplitl [Hinv]; · iexact Hinv
  isplitl [Hat] <;> iassumption

/-! ## The tokens dealt to the devices that pay -/

/-- A family over the devices and over some duties, each duty's column read at the peer in its direction. -/
theorem deal {ι : Type} [Fintype ι] [DecidableEq ι] (f : ι → Fin 3) (Φ : Dev nD → ι → sProp 𝕄) :
    (bigSep Finset.univ fun c : Dev nD => bigSep Finset.univ fun i : ι => Φ c i) = bigSep Finset.univ fun c : Dev nD => bigSep Finset.univ fun i : ι => Φ (pr (f i) c) i := by
  rw [bigSep_univ_comm (fun (c : Dev nD) (i : ι) => Φ c i), bigSep_univ_comm (fun (c : Dev nD) (i : ι) => Φ (pr (f i) c) i)]
  exact bigSep_congr fun i _ => bigSep_univ_equiv (prPerm (f i)) fun c => Φ c i

/-- The tokens of the duties a device pays. -/
def paid (c : Dev nD) : sProp 𝕄 := iprop(
  (bigSep Finset.univ fun a : Fin 3 => dutyTok ER (barCell (pr a c)) 0 a) ∗ bigSep Finset.univ (toks c) ∗ (dutyTok ER (inCell c) 0 0 ∗ dutyTok ER (outCell c) 0 0))

theorem minted_paid : (bigSep Finset.univ fun c : Dev nD => (minted c : sProp 𝕄)) ⊢ bigSep Finset.univ fun c : Dev nD => paid c := by
  unfold minted paid toks
  simp only [sep_roles, bigSep_sep']
  rw [deal (fun a : Fin 3 => a) (fun (c : Dev nD) (a : Fin 3) => (dutyTok ER (barCell c) 0 a : sProp 𝕄)),
    deal Ch.dir (fun (c : Dev nD) (ch : Ch) => (dutyTok ER (rcvCell c ch) 0 0 : sProp 𝕄))]
  iintro ⟨A, B, C, D⟩
  isplitl [A]; · iexact A
  isplitr [D]
  · isplitl [B]; · iexact B
    iexact C
  iexact D

/-- What stays with a device: its places, and the tokens of the duties it pays. -/
def own (c : Dev nD) : sProp 𝕄 := iprop((bigSep Finset.univ fun k : Unit ⊕ Role => atPos ER (kcell (c, k)) 0 ∅ 0) ∗ paid c)

/-- What the device starts with beside the credits. -/
def begun (c : Dev nD) : sProp 𝕄 := iprop(∃ K, records m K ∗ own c)

theorem begun_intro (K : CI → ℕ) (c : Dev nD) : (iprop(records m K ∗ own c) : sProp 𝕄) ⊢ begun m c := by
  unfold begun
  iintro H
  iexists K
  iexact H

theorem regroup :
    (bigSep Finset.univ fun c : Dev nD => iprop((bigSep Finset.univ fun k : Unit ⊕ Role => iprop(∃ κ : ℕ, cellInv ER (sched m) κ (kcell (c, k))))
          ∗ (bigSep Finset.univ fun k : Unit ⊕ Role => iprop(atPos ER (kcell (c, k)) 0 ∅ 0 ∗ reached ER (kcell (c, k)) 0)) ∗ minted c) : sProp 𝕄)
      ⊢ bigSep Finset.univ (begun m) := by
  have hown : (iprop((bigSep Finset.univ fun c : Dev nD => bigSep Finset.univ fun k : Unit ⊕ Role => atPos ER (kcell (c, k)) 0 ∅ 0) ∗ bigSep Finset.univ fun c : Dev nD => paid c) : sProp 𝕄)
      = bigSep Finset.univ fun c : Dev nD => own c := by unfold own; rw [bigSep_sep']
  have hend (K : CI → ℕ) : (iprop(records m K ∗ bigSep Finset.univ fun c : Dev nD => own c) : sProp 𝕄) ⊢ bigSep Finset.univ (begun m) := by
    refine (sep_mono_left (BI.bigSep_of_persistent (Finset.univ : Finset (Dev nD)) (records m K))).trans ?_
    rw [← bigSep_sep']
    exact bigSep_mono fun c _ => begun_intro m K c
  simp only [bigSep_sep']
  rw [← bigSep_univ_prod (fun ck : CI => iprop(∃ κ : ℕ, cellInv ER (sched m) κ (kcell ck))), ← bigSep_univ_prod (fun ck : CI => (reached ER (kcell ck) 0 : sProp 𝕄))]
  iintro ⟨HI, ⟨Hat, #HR⟩, Htok⟩
  ihave HK := (BI.bigSep_exists_pi Finset.univ (fun (ck : CI) (κ : ℕ) => (cellInv ER (sched m) κ (kcell ck) : sProp 𝕄))) $$ HI
  icases HK with ⟨%K, #HI⟩
  ihave Htk := (minted_paid (F := F)) $$ Htok
  ihave Hown := (Entails.of_eq hown) $$ [Hat Htk]
  · isplitl [Hat] <;> iassumption
  iapply (hend K)
  isplitr
  · unfold records
    rw [bigSep_sep']
    isplitr; · iexact HI
    iexact HR
  iexact Hown

/-- The step at launch: the invariants of all devices' cells at once. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (begun m) :=
  ((bigSep_mono fun c _ => alloc m c).trans (bigSep_fupd _ _)).trans (BI.fupd_mono (regroup m))

/-! ## The credits at launch -/

/-- What a device will wait for: the arrivals, and the three signals. -/
def due (c : Dev nD) : CellTallies nD τ sig Unit := (∑ ch : Ch, tallyAt (rcvCell c ch) () N1) + ∑ a : Fin 3, tallyAt (barCell c) () 1

theorem sum8 (f : Fin 8 → CellTallies nD τ sig Unit) : (all8.map f).sum = ∑ r, f r := by
  rw [← List.sum_toFinset f (by decide), all8_univ]
theorem sum4 (f : Fin 4 → CellTallies nD τ sig Unit) : (all4.map f).sum = ∑ r, f r := by
  rw [← List.sum_toFinset f (by decide), all4_univ]

theorem O₀_eq (c : Dev nD) : O₀ c = (∑ ch : Ch, T c ch) + ∑ a : Fin 3, owedBar c a := by
  have h : (∑ ch : Ch, T c ch) = (∑ r, T c (.y r)) + ((∑ r, T c (.xa r)) + ((∑ r, T c (.za r)) + ((∑ r, T c (.xb r)) + ∑ r, T c (.zb r)))) := by
    rw [← Equiv.sum_comp Ch.equivSum.symm, Fintype.sum_sum_type, Fintype.sum_sum_type, Fintype.sum_sum_type, Fintype.sum_sum_type]
    rfl
  rw [h, Fin.sum_univ_three]
  unfold O₀ owed0 owed1 owed2 owed3
  rw [sum8, sum8, sum4, sum4, Finset.sum_add_distrib]
  ac_rfl

theorem sum_owed : (∑ d, O₀ d) = ∑ d, due d := by
  simp only [O₀_eq, due, Finset.sum_add_distrib]
  congr 1
  · rw [Finset.sum_comm, Finset.sum_comm (f := fun d ch => tallyAt (rcvCell d ch) () N1)]
    exact Finset.sum_congr rfl fun ch _ => Equiv.sum_comp (prPerm ch.dir) fun d => (tallyAt (rcvCell d ch) () N1 : CellTallies nD τ sig Unit)
  · rw [Finset.sum_comm, Finset.sum_comm (f := fun (d : Dev nD) (a : Fin 3) => tallyAt (barCell d) () 1)]
    exact Finset.sum_congr rfl fun a _ => Equiv.sum_comp (prPerm a) fun d => (tallyAt (barCell d) () 1 : CellTallies nD τ sig Unit)

theorem due_own (c : Dev nD) (g : GSem nD τ sig) (h : due c g ≠ 0) : g.1 = (c : Thread nD τ) := by
  by_contra hg
  refine h ?_
  unfold due
  rw [Pi.add_apply, Finset.sum_apply, Finset.sum_apply,
    Finset.sum_eq_zero fun ch _ => tallyAt_ne_cell (fun e => hg (congrArg Prod.fst e)) () N1,
    Finset.sum_eq_zero fun a _ => tallyAt_ne_cell (fun e => hg (congrArg Prod.fst e)) () 1, add_zero]

/-- The launch deals a device the credit of what it will wait for. -/
theorem creds (c : Dev nD) :
    (Pipeline.launchCred O₀ c : sProp 𝕄) ⊢ iprop((bigSep Finset.univ fun ch : Ch => cred (tallyAt (rcvCell c ch) () N1)) ∗ cred (tallyAt (barCell c) () 3)) := by
  rw [Pipeline.launchCred_of_sum O₀ due sum_owed due_own c]
  have h : (∑ a : Fin 3, tallyAt (barCell c) () 1 : CellTallies nD τ sig Unit) = tallyAt (barCell c) () 3 := by
    rw [Fin.sum_univ_three, tallyAt_add, tallyAt_add]
  unfold due
  rw [h]
  refine (cred_add _ _).1.trans ?_
  rw [Pipeline.cred_finsetSum]

end Cert.MeshGather

end
-- ==== Proof.Launch.lean ====
/-
The launch: from the memory as it is given, every device runs the body and stops with the result in place, `x` as it
was and every semaphore at zero.
-/
module

public import proofs.«01_k».proof.Proof.Ghost
public import Idealize.ShloMosaic.Lib.Pipeline.CollectiveSegs

@[expose] public section

set_option maxRecDepth 16384

noncomputable section

namespace Cert.MeshGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stLoc (c : Dev nD) : Loc nD τ sig := (c : Thread nD τ).loc cc0_scratch11

theorem stPts_eq (c : Dev nD) (f : S4096x1024.Idx → Elt F .f32) : (stPts c f : sProp 𝕄) = (stLoc c ↦{fullShare} f) := by
  unfold stPts
  rw [show (stage : Memref sig .tc .vmem S4096x1024 .f32).view.set = Finset.univ from View.set_whole _]

/-! ## Before and after the body -/

/-- What a device starts with, the staging buffer aside. -/
def start (c : Dev nD) : sProp 𝕄 := iprop(
  (∃ K, know m K) ∗ given c ∗ (∃ f, outLoc c ↦{fullShare} f) ∗ (xLoc c ↦{fullShare} xC m c))
/-- What it ends with, the staging buffer and its own semaphores aside. -/
def left (c : Dev nD) : sProp 𝕄 := iprop((outLoc c ↦{fullShare} G m c) ∗ (xLoc c ↦{fullShare} xC m c))

def Φ₀ (c : Dev nD) : sProp 𝕄 := iprop(start m c ∗ ∃ f, stLoc c ↦{fullShare} f)
def Φ₁ (c : Dev nD) : sProp 𝕄 := iprop(quiet c ∗ left m c ∗ ∃ f, stLoc c ↦{fullShare} f)

/-- The launch's data: no window, the one point's invariants, and what the devices owe. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0
  recorded _ := Set.univ

theorem room_intro (c : Dev nD) (ch : Ch) (f : S8192x1024.Idx → Elt F .f32) : (oPts c (fill c ch) fullShare f : sProp 𝕄) ⊢ room c ch := by
  unfold room
  iintro H
  iexists f
  iexact H

/-- The memory at the start is the pieces the body works on, and the part of `x` it does not touch. -/
theorem holds_intro (c : Dev nD) (f : S8192x1024.Idx → Elt F .f32) (g : S4096x1024.Idx → Elt F .f32) :
    (iprop((outLoc c ↦{fullShare} f) ∗ (xLoc c ↦{fullShare} xC m c) ∗ (stLoc c ↦{fullShare} g)) : sProp 𝕄) ⊢ iprop(holds m c ∗ spare m c) := by
  have hr : (bigSep Finset.univ fun ch => oPts c (fill c ch) fullShare f : sProp 𝕄) ⊢ bigSep Finset.univ (room c) :=
    bigSep_mono fun ch _ => room_intro c ch f
  rw [out_eq, x_eq, ← stPts_eq]
  unfold holds
  iintro ⟨⟨A, B⟩, ⟨⟨C, D⟩, E⟩, S⟩
  ihave B := (hr) $$ B
  isplitr [E]
  · isplitl [A]; · iexists f; iexact A
    isplitl [B]; · iexact B
    isplitl [C]; · iexact C
    isplitl [D]; · iexact D
    iexists g; iexact S
  · iexact E

/-- The pieces at the end are the result, `x` as it was and the staging buffer. -/
theorem result_elim (c : Dev nD) :
    (iprop(result m c ∗ spare m c) : sProp 𝕄) ⊢ iprop(left m c ∗ ∃ f, stLoc c ↦{fullShare} f) := by
  have hl : (bigSep Finset.univ fun ch => oPts c (fill c ch) fullShare (G m c) : sProp 𝕄) = bigSep Finset.univ (landed m c) := rfl
  unfold result left
  rw [out_eq, x_eq, hl, stPts_eq]
  iintro ⟨⟨A, B, C, D, S⟩, E⟩
  isplitr [S]
  · isplitl [A B]
    · isplitl [A] <;> iassumption
    · isplitr [E]
      · isplitl [C] <;> iassumption
      · iexact E
  · iexists _; iexact S

/-! ## The body -/

def before' (c : Dev nD) : sProp 𝕄 := iprop(Φ₀ m c ∗ (dats m 0 c).owesAt () t0_0.castSucc ∗ emp)
def after' (c : Dev nD) : sProp 𝕄 := iprop(Φ₁ m c ∗ (dats m 0 c).owesAt () t0_0.succ ∗ emp)

theorem runs_ret {Q : PUnit → sProp 𝕄} (c : Dev nD) : Q ⟨⟩ ⊢ runs c (Prog.ret ⟨⟩) Q := le_wp_ret _ _ _ _ Q

theorem sound (c : Dev nD) : before' m c ⊢ runs c (bodyAt0 (F := F) t0_0) fun _ => after' m c := by
  rw [body_eq]
  unfold runs
  rw [wp_deviceId]
  unfold before' Φ₀ start
  iintro ⟨⟨⟨⟨%K, #HK⟩, HG, ⟨%f, Ho⟩, Hx⟩, ⟨%g, Hs⟩⟩, ⟨%W, -, HW⟩, -⟩
  ihave HM := (holds_intro m c f g) $$ [Ho Hx Hs]
  · isplitl [Ho]; · iexact Ho
    isplitl [Hx]; · iexact Hx
    iexact Hs
  icases HM with ⟨HM, HE⟩
  iapply (wp_code m K c)
  isplitr; · iexact HK
  isplitl [HW]
  · unfold owesW; iexists W; iexact HW
  isplitl [HG]; · iexact HG
  isplitl [HM]; · iexact HM
  iintro ⟨HW, HQ, HR⟩
  iapply (runs_ret (F := F) c)
  ihave HL := (result_elim m c) $$ [HR HE]
  · isplitl [HR] <;> iassumption
  icases HL with ⟨HL, HS⟩
  unfold after' Φ₁ owesW
  icases HW with ⟨%W', HW⟩
  isplitr [HW]
  · isplitl [HQ]; · iexact HQ
    isplitl [HL]; · iexact HL
    iexact HS
  isplitl [HW]
  · iexists W'
    isplitr; · ipureintro; exact fun _ _ => Or.inl trivial
    iexact HW
  · iempintro

theorem no_windows (Φ : Fin 0 → sProp 𝕄) : bigSep (Finset.univ : Finset (Fin 0)) Φ = iprop(emp) := by
  rw [Finset.univ_eq_empty]; exact bigSep_empty

theorem body_obligation (c : Dev nD) : BodyObligation (dats (F := F) m 0 c) (defs₀ (F := F)) 𝒱₀ () Set.univ := fun t => by
  rw [fin_N0 t]
  have h := sound m c
  unfold before' after' at h
  rw [no_windows, no_windows]
  exact h

/-! ## The theorem's side conditions -/

theorem three (Φ : Fin 3 → sProp 𝕄) : bigSep Finset.univ Φ = iprop(Φ 0 ∗ Φ 1 ∗ Φ 2) := bigSep_univ_eq_bigSepL [0, 1, 2] (by decide) (by decide) Φ

theorem given_intro (c : Dev nD) : (iprop((bigSep Finset.univ fun ch : Ch => cred (tallyAt (rcvCell c ch) () N1)) ∗ cred (tallyAt (barCell c) () 3) ∗ own c) : sProp 𝕄) ⊢ given c := by
  have ha : (bigSep Finset.univ (arr c) : sProp 𝕄)
      = iprop((bigSep Finset.univ fun ch : Ch => cred (tallyAt (rcvCell c ch) () N1)) ∗ bigSep Finset.univ fun ch : Ch => atPos ER (rcvCell c ch) 0 ∅ 0) := by
    unfold arr; rw [bigSep_sep']
  have hp : (bigSep Finset.univ fun k : Unit ⊕ Role => atPos ER (kcell (c, k)) 0 ∅ 0 : sProp 𝕄)
      = iprop(atPos ER (barCell c) 0 ∅ 0 ∗ bigSep Finset.univ (place c) ∗ (bigSep Finset.univ fun ch : Ch => atPos ER (rcvCell c ch) 0 ∅ 0)
        ∗ atPos ER (inCell c) 0 ∅ 0 ∗ atPos ER (outCell c) 0 ∅ 0) := by
    rw [sep_cells, sep_roles]; rfl
  unfold given own paid
  rw [hp, ha, three]
  iintro ⟨C, B, ⟨PB, PS, PR, PI, PO⟩, T, K, IO⟩
  isplitl [B PB]
  · isplitl [B] <;> iassumption
  isplitl [T]; · iexact T
  isplitl [K]; · iexact K
  isplitl [C PR]
  · isplitl [C] <;> iassumption
  isplitl [PS]; · iexact PS
  isplitl [IO]; · iexact IO
  isplitl [PI] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ begun m c)
      ⊢ |={Set.univ}=> iprop(start m c ∗ emp) := by
  rw [Pipeline.unscopedRestP_none, unscopedRest0_eq]
  unfold begun
  iintro ⟨⟨Hx, Ho⟩, Hlev, Hcr, -, ⟨%K, HR, HO⟩⟩
  ihave Hc := (creds (F := F) c) $$ Hcr
  icases Hc with ⟨HC, HB⟩
  ihave HG := (given_intro (F := F) c) $$ [HC HB HO]
  · isplitl [HC]; · iexact HC
    isplitl [HB] <;> iassumption
  imodintro
  unfold start know
  isplitl
  · isplitl [HR Hlev]
    · iexists K
      isplitl [HR] <;> iassumption
    isplitl [HG]; · iexact HG
    isplitl [Ho]; · iexists _; iexact Ho
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

/-- What a device ends with: the memory, and the barrier's semaphore at zero. -/
def done (c : Dev nD) : sProp 𝕄 := iprop(left m c ∗ unscopedSems0 c)

theorem phi1_exit (c : Dev nD) :
    (dats m 0 c).Φ (Fin.last cfg0.N) ⊢ iprop(done m c ∗ Pipeline.ownSems0 osem c ∗ Pipeline.scopedRest cfg0.spec c) := by
  unfold done
  rw [show (dats m 0 c).Φ (Fin.last cfg0.N) = Φ₁ m c from rfl, scopedRest0_eq, ownSems0_eq, unscopedSems0_eq, sep_roles]
  unfold Φ₁ quiet
  iintro ⟨⟨HB, HS, HR, HI, HO⟩, HL, Hs⟩
  isplitl [HL HB]
  · isplitl [HL] <;> iassumption
  isplitr [Hs]
  · isplitl [HS]; · iexact HS
    isplitl [HR]; · iexact HR
    isplitl [HI] <;> iassumption
  iexact Hs

theorem waits (c : Dev nD) : (levAts L lv : sProp 𝕄) ⊢ Pipeline.cellsWaits cfgs (dats m) () 0 c :=
  Pipeline.cellsWaits_intro cfgs (dats m) () 0 c fun w => w.elim0

/-- What the final state shows of a device. -/
def shows (c : Dev nD) (s : MemSt nD τ sig (Elt F)) : Prop :=
  s.mem (outLoc c) = G m c ∧ s.mem (xLoc c) = m (xLoc c) ∧ ∀ sm : SemLoc sig, sm.isScoped .tc = false → s.sem ((c.tc : Thread nD τ), sm) = 0

theorem whole_read (ℓ : Loc nD τ sig) (f : Buf (Elt F) ℓ) (s' : Phys nD τ sig (Elt F)) :
    (iprop(SI s' ∗ ℓ ↦{fullShare} f) : sProp 𝕄) ⊢ iprop(⌜s'.mem.mem ℓ = f⌝) :=
  SI_pointsTo_agree.trans (Laws.pure_mono fun h => funext fun i => h i (Finset.mem_univ i))

theorem done_read (c : Dev nD) (s' : Phys nD τ sig (Elt F)) :
    iprop(done m c ∗ emp ∗ SI s') ⊢ |={Set.univ}=> iprop(⌜shows m c s'.mem⌝ ∗ SI s') := by
  unfold done left
  iintro ⟨⟨⟨Ho, Hx⟩, Hu⟩, -, HSI⟩
  ihave %h1 := (whole_read (outLoc c) (G m c) s') $$ [HSI Ho]
  · isplitl [HSI] <;> iassumption
  ihave %h2 := (whole_read (xLoc c) (xC m c) s') $$ [HSI Hx]
  · isplitl [HSI] <;> iassumption
  ihave H := (Pipeline.unscopedSems0_read (X := unscopedSems0 c) (c := c) fupd_intro s') $$ [Hu HSI]
  · isplitl [Hu] <;> iassumption
  imod H with ⟨%h3, HSI⟩
  imodintro
  isplitr
  · ipureintro; exact ⟨h1, h2, h3⟩
  · iexact HSI

/-! ## The run -/

/-- From any memory with every semaphore at zero, the program stops on all devices under every fair execution, and
every state it stops in has each device's result in place, `x` as it was and every semaphore at zero. -/
theorem run_main : θ_run defs (onTc (τ := τ) (main (F := F))) ⟨m, fun _ => 0, ρ⟩ (fun r =>
    (∀ c : Dev nD, r.2.mem (outLoc c) = G m c ∧ r.2.mem (xLoc c) = m (xLoc c)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := dealt m) (G' := begun m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := start m) (Y := done m) (Z := fun _ => iprop(emp))
    (hX := start_intro m ρ) (hin := phi0_intro m) (hout := phi1_exit m)
    (QY := shows m) (hY := done_read m)
    (hQ := fun _ h hs => ⟨fun c => ⟨(h c).2.2.1, (h c).2.2.2.1⟩, sem_eq_zero hs fun c => (h c).2.2.2.2⟩)

end Cert.MeshGather

end
-- ==== Proof.Value.lean ====
/-
The result of a device is its block of the whole array: its own half comes from its own `x`, and the other half comes
from the devices that hold those rows.
-/
module

public import proofs.«01_k».proof.Proof.Contents
public import Idealize.ShloMosaic.Lib.Layout

@[expose] public section

set_option maxRecDepth 16384

noncomputable section

namespace Cert.MeshGather

open Cert.KernelIdeal
open Idealize.ShloMosaic Idealize.ShloMosaic.TcCoe

variable {F : FTy → Type} [FloatOps F]

variable (m : (ℓ : Loc nD τ sig) → Buf (Elt F) ℓ)

/-- The device a row is read from holds that half of the rows. -/
theorem src_half (c : Dev nD) (row : ℕ) (h : row < 8192) : (src c row).val / 2 % 2 = row / 4096 := by
  unfold src
  split
  · next e => exact e.symm
  · next e =>
    show (4 * (row / 2048 % 2) + 2 * (1 - c.val / 2 % 2) + row / 1024 % 2) / 2 % 2 = row / 4096
    omega

/-- The mesh's coordinate along `y`. -/
theorem coord_y (c : Dev nD) : Layout.meshLin [2, 2, 2] c.val [1] = c.val / 2 % 2 := by
  revert c; decide

/-- Where each device's `x` is its block of rows of `v`, its result is its block of columns of `v`. -/
theorem G_block (v : (⟨2, ![8192, 2048]⟩ : Shape).Idx → Elt F .f32)
    (h : ∀ c : Dev nD, m ((c.tc : Thread nD τ).loc main_arg0) = Layout.blockN ⟨2, ![4096, 2048]⟩ ⟨2, ![8192, 2048]⟩ (Layout.meshBlock [2, 2, 2] ![[1], []] c) v)
    (c : Dev nD) : G m c = Layout.blockN ⟨2, ![8192, 1024]⟩ ⟨2, ![8192, 2048]⟩ (Layout.meshBlock [2, 2, 2] ![[], [1]] c) v := by
  funext i
  have h0 : (i 0).val < 8192 := (i 0).isLt
  unfold G
  rw [show xC m (src c (i 0).val) = _ from h (src c (i 0).val)]
  rw [Layout.blockN_apply, Layout.blockN_apply]
  congr 1
  funext b
  refine Fin.ext ?_
  rw [Layout.TilesN.idx_val, Layout.TilesN.idx_val]
  have hs := src_half c (i 0).val h0
  match b with
  | 0 =>
    show Layout.meshLin [2, 2, 2] (src c (i 0).val).val [1] * 4096 + (i 0).val % 4096 = Layout.meshLin [2, 2, 2] c.val [] * 8192 + (i 0).val
    rw [coord_y, hs]
    show (i 0).val / 4096 * 4096 + (i 0).val % 4096 = 0 * 8192 + (i 0).val
    omega
  | 1 =>
    show Layout.meshLin [2, 2, 2] (src c (i 0).val).val [] * 2048 + (1024 * (c.val / 2 % 2) + (i 1).val) = Layout.meshLin [2, 2, 2] c.val [1] * 1024 + (i 1).val
    rw [coord_y]
    show 0 * 2048 + (1024 * (c.val / 2 % 2) + (i 1).val) = c.val / 2 % 2 * 1024 + (i 1).val
    omega

end Cert.MeshGather

end
-- ==== Proof.lean ====
/-
The five claims of the certificate: the kernel, the kernel over the extended reals and the reference stop with their
argument as it was and every semaphore at zero; the second is the first over the extended reals; and it computes what
the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Value
public import Idealize.ShloMosaic.Lib.StableHlo.RunHlo
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel stops with `x` as it was and every semaphore at zero. -/
theorem frame_kernel : Cert.quiescent_Kernel := fun m ρ _ =>
  (θ_run Cert.KernelIdeal.defs _ _).mono (fun _ h => ⟨fun c => (h.1 c).2, h.2⟩) (Cert.MeshGather.run_main (F := Bits) m ρ)

/-- So does the kernel over the extended reals. -/
theorem frame_ideal : Cert.quiescent_KernelIdeal := fun m ρ _ =>
  (θ_run Cert.KernelIdeal.defs _ _).mono (fun _ h => ⟨fun c => (h.1 c).2, h.2⟩) (Cert.MeshGather.run_main (F := Ideal) m ρ)

/-- The reference has no operation: it stops with its argument, which is its result, as it was. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) :=
  (θ_run Cert.ReferenceIdeal.defs _ _).mono (fun _ h c => h c Cert.ReferenceIdeal.main_arg0)
    (StableHlo.run_hlo Cert.ReferenceIdeal.defs Cert.ReferenceIdeal.main (ops := []) (fun _ => StableHlo.IsSeq.nil)
      (by decide) (by decide) trivial (fun _ h => nomatch h) m ρ)

theorem frame_reference : Cert.quiescent_ReferenceIdeal := fun m ρ _ =>
  (θ_run Cert.ReferenceIdeal.defs _ _).mono (fun r h => ⟨h, sem_eq_zero_of_no_sems rfl r.2⟩) (run_reference m ρ)

/-- Every device ends with its block of the columns of the whole array, which is what the reference returns. -/
theorem gather_value : Cert.algebraic_KernelIdeal_ReferenceIdeal := fun m ρ m' ρ' _ hx =>
  ⟨_, (θ_run Cert.KernelIdeal.defs _ _).mono
      (fun _ h c => ⟨(h.1 c).1.trans (Cert.MeshGather.G_block m _ hx c), (h.1 c).2⟩) (Cert.MeshGather.run_main (F := Ideal) m ρ),
    (θ_run Cert.ReferenceIdeal.defs _ _).mono (fun _ h => ⟨h 0, h 0⟩) (run_reference m' ρ')⟩

/-- All five claims. -/
theorem claim : Cert.Claim := ⟨Cert.Kernel.Gen.facts, Cert.KernelIdeal.Gen.facts, Cert.ReferenceIdeal.Gen.facts,
  frame_kernel, frame_ideal, frame_reference, trivial, gather_value⟩

end Cert.Proof

end
